-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_off_finite_qk [hPre_masks_off_finite_qk : Cert.Pre_masks_off_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_masks_off_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_off_finite_qk [hPre_masks_off_finite_qk : Cert.Pre_masks_off_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_off_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_masks_off_finite_qk [hKernelIdeal : Cert.KernelIdeal.Facts] [hPre_masks_off_finite_qk : Cert.Pre_masks_off_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_off_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_masks_off_finite_qk [hReferenceIdeal : Cert.ReferenceIdeal.Facts] [hPre_masks_off_finite_qk : Cert.Pre_masks_off_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_off_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_masks_off_finite_qk [hKernelIdeal : Cert.KernelIdeal.Facts] [hReferenceIdeal : Cert.ReferenceIdeal.Facts] [hPre_masks_off_finite_qk : Cert.Pre_masks_off_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_off_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_masks_off_finite_qk : Cert.Pre_masks_off_finite_qk.Facts),
    quiescent_Kernel (hKernel := hKernel)
    ∧ quiescent_KernelIdeal (hKernelIdeal := hKernelIdeal)
    ∧ quiescent_KernelIdeal_pre_masks_off_finite_qk (hKernelIdeal := hKernelIdeal) (hPre_masks_off_finite_qk := hPre_masks_off_finite_qk)
    ∧ quiescent_ReferenceIdeal (hReferenceIdeal := hReferenceIdeal)
    ∧ quiescent_ReferenceIdeal_pre_masks_off_finite_qk (hReferenceIdeal := hReferenceIdeal) (hPre_masks_off_finite_qk := hPre_masks_off_finite_qk)
    ∧ preserves_Kernel_KernelIdeal
    ∧ algebraic_KernelIdeal_ReferenceIdeal_pre_masks_off_finite_qk (hKernelIdeal := hKernelIdeal) (hReferenceIdeal := hReferenceIdeal) (hPre_masks_off_finite_qk := hPre_masks_off_finite_qk)
-- ==== Pre_masks_off_finite_qk.lean ====
abbrev S1x16x2048x64 : Shape := ⟨4, ![1, 16, 2048, 64]⟩
abbrev S_ : Shape := ⟨0, ![]⟩
abbrev S1x2048 : Shape := ⟨2, ![1, 2048]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_

variable [Facts]

def fn_part1 {F : FTy → Type} [FloatOps F] (main_arg1 : FVec F S1x16x2048x64 .f32) (main_v15 : IVec S_ 1) : IVec S_ 1 :=
  let main_v16 : FVec F S1x16x2048x64 .f32 := Host.absf main_arg1
  let main_cst_6 : FVec F S_ .f32 := constant S_ .f32 0x7F800000#32
  let main_v17 : FVec F S1x16x2048x64 .f32 := broadcastInDim S1x16x2048x64 ![] bcast_S_S1x16x2048x64 main_cst_6
  let main_v18 : IVec S1x16x2048x64 1 := cmpf .olt main_v16 main_v17
  let main_c_7 : IVec S_ 1 := constantI S_ 1 1#1
  let main_v19 : IVec S_ 1 := (fun x v => Host.reduce IntOp.andi x v reducesTo_S1x16x2048x64_S_d0_1_2_3 h_S_) main_v18 main_c_7
  let main_v20 : IVec S_ 1 := andi main_v15 main_v19
  main_v20

def fn {F : FTy → Type} [FloatOps F] (main_arg0 : FVec F S1x16x2048x64 .f32) (main_arg1 : FVec F S1x16x2048x64 .f32) (main_arg2 : FVec F S1x16x2048x64 .f32) (main_arg3 : IVec S_ 32) (main_arg4 : IVec S1x2048 32) (main_arg5 : IVec S1x2048 32) (main_arg6 : IVec S1x2048 32) : IVec S_ 1 :=
  let main_c : IVec S_ 32 := constantI S_ 32 0#32
  let main_v0 : IVec S1x2048 32 := broadcastInDim S1x2048 ![] bcast_S_S1x2048 main_c
  let main_v1 : IVec S1x2048 1 := cmpi .sle main_arg4 main_v0
  let main_c_0 : IVec S_ 1 := constantI S_ 1 1#1
  let main_v2 : IVec S_ 1 := (fun x v => Host.reduce IntOp.andi x v reducesTo_S1x2048_S_d0_1 h_S_) main_v1 main_c_0
  let main_c_1 : IVec S_ 32 := constantI S_ 32 0#32
  let main_v3 : IVec S1x2048 32 := broadcastInDim S1x2048 ![] bcast_S_S1x2048 main_c_1
  let main_v4 : IVec S1x2048 1 := cmpi .sle main_arg5 main_v3
  let main_c_2 : IVec S_ 1 := constantI S_ 1 1#1
  let main_v5 : IVec S_ 1 := (fun x v => Host.reduce IntOp.andi x v reducesTo_S1x2048_S_d0_1 h_S_) main_v4 main_c_2
  let main_v6 : IVec S_ 1 := andi main_v2 main_v5
  let main_c_3 : IVec S_ 32 := constantI S_ 32 0#32
  let main_v7 : IVec S1x2048 32 := broadcastInDim S1x2048 ![] bcast_S_S1x2048 main_c_3
  let main_v8 : IVec S1x2048 1 := cmpi .sgt main_arg6 main_v7
  let main_c_4 : IVec S_ 1 := constantI S_ 1 1#1
  let main_v9 : IVec S_ 1 := (fun x v => Host.reduce IntOp.andi x v reducesTo_S1x2048_S_d0_1 h_S_) main_v8 main_c_4
  let main_v10 : IVec S_ 1 := andi main_v6 main_v9
  let main_v11 : FVec F S1x16x2048x64 .f32 := Host.absf main_arg0
  let main_cst : FVec F S_ .f32 := constant S_ .f32 0x7F800000#32
  let main_v12 : FVec F S1x16x2048x64 .f32 := broadcastInDim S1x16x2048x64 ![] bcast_S_S1x16x2048x64 main_cst
  let main_v13 : IVec S1x16x2048x64 1 := cmpf .olt main_v11 main_v12
  let main_c_5 : IVec S_ 1 := constantI S_ 1 1#1
  let main_v14 : IVec S_ 1 := (fun x v => Host.reduce IntOp.andi x v reducesTo_S1x16x2048x64_S_d0_1_2_3 h_S_) main_v13 main_c_5
  let main_v15 : IVec S_ 1 := andi main_v10 main_v14
  fn_part1 (F := F) main_arg1 main_v15
-- ==== Kernel.lean ====
abbrev S1x16x2048x64 : Shape := ⟨4, ![1, 16, 2048, 64]⟩
abbrev S_ : Shape := ⟨0, ![]⟩
abbrev S1x2048 : Shape := ⟨2, ![1, 2048]⟩
abbrev S1x1x2048x64 : Shape := ⟨4, ![1, 1, 2048, 64]⟩
abbrev S2048x64 : Shape := ⟨2, ![2048, 64]⟩
abbrev S1x1x128x64 : Shape := ⟨4, ![1, 1, 128, 64]⟩
abbrev S128x64 : Shape := ⟨2, ![128, 64]⟩
abbrev S64x64 : Shape := ⟨2, ![64, 64]⟩
abbrev S576x64 : Shape := ⟨2, ![576, 64]⟩
abbrev S128x576 : Shape := ⟨2, ![128, 576]⟩
abbrev S128 : Shape := ⟨1, ![128]⟩
abbrev S128x1 : Shape := ⟨2, ![128, 1]⟩
abbrev S640x64 : Shape := ⟨2, ![640, 64]⟩
abbrev S128x640 : Shape := ⟨2, ![128, 640]⟩
abbrev S704x64 : Shape := ⟨2, ![704, 64]⟩
abbrev S128x704 : Shape := ⟨2, ![128, 704]⟩
abbrev S768x64 : Shape := ⟨2, ![768, 64]⟩
abbrev S128x768 : Shape := ⟨2, ![128, 768]⟩
abbrev S512x64 : Shape := ⟨2, ![512, 64]⟩
abbrev S128x512 : Shape := ⟨2, ![128, 512]⟩

abbrev nBuf : Space → Nat
  | .hbm => 8
  | .vmem => 10
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S_, .i32⟩
  | .hbm, ⟨4, _⟩ => ⟨S1x2048, .i32⟩
  | .hbm, ⟨5, _⟩ => ⟨S1x2048, .i32⟩
  | .hbm, ⟨6, _⟩ => ⟨S1x2048, .i32⟩
  | .hbm, ⟨7, _⟩ => ⟨S1x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .vmem, ⟨8, _⟩ => ⟨S2048x64, .bf16⟩
  | .local _ .vmem, ⟨9, _⟩ => ⟨S2048x64, .bf16⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x16x2048x64 : Shape := ⟨4, ![1, 16, 2048, 64]⟩
abbrev S_ : Shape := ⟨0, ![]⟩
abbrev S1x2048 : Shape := ⟨2, ![1, 2048]⟩
abbrev S32x3 : Shape := ⟨2, ![32, 3]⟩
abbrev S1x32x64 : Shape := ⟨3, ![1, 32, 64]⟩
abbrev S1x32 : Shape := ⟨2, ![1, 32]⟩
abbrev S32 : Shape := ⟨1, ![32]⟩
abbrev S32x1 : Shape := ⟨2, ![32, 1]⟩
abbrev S32x32 : Shape := ⟨2, ![32, 32]⟩
abbrev S32x3x1 : Shape := ⟨3, ![32, 3, 1]⟩
abbrev S32x3x2 : Shape := ⟨3, ![32, 3, 2]⟩
abbrev S1x32x32 : Shape := ⟨3, ![1, 32, 32]⟩
abbrev S1x1x32 : Shape := ⟨3, ![1, 1, 32]⟩
abbrev S1x32x1 : Shape := ⟨3, ![1, 32, 1]⟩
abbrev S1x32x64x32 : Shape := ⟨4, ![1, 32, 64, 32]⟩
abbrev S1x2048x32 : Shape := ⟨3, ![1, 2048, 32]⟩
abbrev S1x2048x32x64 : Shape := ⟨4, ![1, 2048, 32, 64]⟩
abbrev S1x2048x2048 : Shape := ⟨3, ![1, 2048, 2048]⟩
abbrev S1x2048x1 : Shape := ⟨3, ![1, 2048, 1]⟩
abbrev S1x1x2048 : Shape := ⟨3, ![1, 1, 2048]⟩
abbrev S1x16x2048x2048 : Shape := ⟨4, ![1, 16, 2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 110
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S_, .i32⟩
  | .hbm, ⟨4, _⟩ => ⟨S1x2048, .i32⟩
  | .hbm, ⟨5, _⟩ => ⟨S1x2048, .i32⟩
  | .hbm, ⟨6, _⟩ => ⟨S1x2048, .i32⟩
  | .hbm, ⟨7, _⟩ => ⟨S32x3, .i32⟩
  | .hbm, ⟨8, _⟩ => ⟨S1x32x64, .i32⟩
  | .hbm, ⟨9, _⟩ => ⟨S_, .i32⟩
  | .hbm, ⟨10, _⟩ => ⟨S1x32, .i32⟩
  | .hbm, ⟨11, _⟩ => ⟨S_, .i32⟩
  | .hbm, ⟨12, _⟩ => ⟨S1x32, .i32⟩
  | .hbm, ⟨13, _⟩ => ⟨S1x32, .i1⟩
  | .hbm, ⟨14, _⟩ => ⟨S1x32x64, .i32⟩
  | .hbm, ⟨15, _⟩ => ⟨S_, .i32⟩
  | .hbm, ⟨16, _⟩ => ⟨S1x32, .i32⟩
  | .hbm, ⟨17, _⟩ => ⟨S_, .i32⟩
  | .hbm, ⟨18, _⟩ => ⟨S1x32, .i32⟩
  | .hbm, ⟨19, _⟩ => ⟨S1x32, .i1⟩
  | .hbm, ⟨20, _⟩ => ⟨S32, .i32⟩
  | .hbm, ⟨21, _⟩ => ⟨S32x1, .i32⟩
  | .hbm, ⟨22, _⟩ => ⟨S32, .i32⟩
  | .hbm, ⟨23, _⟩ => ⟨S1x32, .i32⟩
  | .hbm, ⟨24, _⟩ => ⟨S32x32, .i32⟩
  | .hbm, ⟨25, _⟩ => ⟨S32x32, .i32⟩
  | .hbm, ⟨26, _⟩ => ⟨S32x32, .i32⟩
  | .hbm, ⟨27, _⟩ => ⟨S32x32, .i32⟩
  | .hbm, ⟨28, _⟩ => ⟨S_, .i32⟩
  | .hbm, ⟨29, _⟩ => ⟨S32x32, .i32⟩
  | .hbm, ⟨30, _⟩ => ⟨S32x32, .i1⟩
  | .hbm, ⟨31, _⟩ => ⟨S_, .i1⟩
  | .hbm, ⟨32, _⟩ => ⟨S32x32, .i1⟩
  | .hbm, ⟨33, _⟩ => ⟨S32, .i32⟩
  | .hbm, ⟨34, _⟩ => ⟨S32x1, .i32⟩
  | .hbm, ⟨35, _⟩ => ⟨S_, .i32⟩
  | .hbm, ⟨36, _⟩ => ⟨S32x1, .i32⟩
  | .hbm, ⟨37, _⟩ => ⟨S32x1, .i1⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S32x1, .i32⟩
  | .hbm, ⟨42, _⟩ => ⟨S_, .i32⟩
  | .hbm, ⟨43, _⟩ => ⟨S32x3, .i32⟩
  | .hbm, ⟨44, _⟩ => ⟨S32x3, .i1⟩
  | .hbm, ⟨45, _⟩ => ⟨S_, .i32⟩
  | .hbm, ⟨46, _⟩ => ⟨S32x3, .i32⟩
  | .hbm, ⟨47, _⟩ => ⟨S32x3, .i32⟩
  | .hbm, ⟨48, _⟩ => ⟨S32x3, .i32⟩
  | .hbm, ⟨49, _⟩ => ⟨S32x3, .i32⟩
  | .hbm, ⟨50, _⟩ => ⟨S32x3x1, .i32⟩
  | .hbm, ⟨51, _⟩ => ⟨S32x3x1, .i32⟩
  | .hbm, ⟨52, _⟩ => ⟨S32x3x2, .i32⟩
  | .hbm, ⟨53, _⟩ => ⟨S_, .i1⟩
  | .hbm, ⟨54, _⟩ => ⟨S32x3, .i1⟩
  | .hbm, ⟨55, _⟩ => ⟨S32x32, .i1⟩
  | .hbm, ⟨56, _⟩ => ⟨S32x32, .i1⟩
  | .hbm, ⟨57, _⟩ => ⟨S1x32x32, .i1⟩
  | .hbm, ⟨58, _⟩ => ⟨S1x1x32, .i1⟩
  | .hbm, ⟨59, _⟩ => ⟨S1x32x32, .i1⟩
  | .hbm, ⟨60, _⟩ => ⟨S1x32x32, .i1⟩
  | .hbm, ⟨61, _⟩ => ⟨S1x32x1, .i1⟩
  | .hbm, ⟨62, _⟩ => ⟨S1x32x32, .i1⟩
  | .hbm, ⟨63, _⟩ => ⟨S1x32x32, .i1⟩
  | .hbm, ⟨64, _⟩ => ⟨S1x32x64x32, .i1⟩
  | .hbm, ⟨65, _⟩ => ⟨S1x2048x32, .i1⟩
  | .hbm, ⟨66, _⟩ => ⟨S1x2048x32x64, .i1⟩
  | .hbm, ⟨67, _⟩ => ⟨S1x2048x2048, .i1⟩
  | .hbm, ⟨68, _⟩ => ⟨S_, .i32⟩
  | .hbm, ⟨69, _⟩ => ⟨S1x2048, .i32⟩
  | .hbm, ⟨70, _⟩ => ⟨S1x2048, .i1⟩
  | .hbm, ⟨71, _⟩ => ⟨S1x2048x1, .i1⟩
  | .hbm, ⟨72, _⟩ => ⟨S1x2048x2048, .i1⟩
  | .hbm, ⟨73, _⟩ => ⟨S1x2048x2048, .i1⟩
  | .hbm, ⟨74, _⟩ => ⟨S_, .i32⟩
  | .hbm, ⟨75, _⟩ => ⟨S1x2048, .i32⟩
  | .hbm, ⟨76, _⟩ => ⟨S1x2048, .i1⟩
  | .hbm, ⟨77, _⟩ => ⟨S1x1x2048, .i1⟩
  | .hbm, ⟨78, _⟩ => ⟨S1x2048x2048, .i1⟩
  | .hbm, ⟨79, _⟩ => ⟨S1x2048x2048, .i1⟩
  | .hbm, ⟨80, _⟩ => ⟨S_, .i32⟩
  | .hbm, ⟨81, _⟩ => ⟨S1x2048, .i32⟩
  | .hbm, ⟨82, _⟩ => ⟨S1x2048, .i1⟩
  | .hbm, ⟨83, _⟩ => ⟨S1x1x2048, .i1⟩
  | .hbm, ⟨84, _⟩ => ⟨S1x2048x2048, .i1⟩
  | .hbm, ⟨85, _⟩ => ⟨S1x2048x2048, .i1⟩
  | .hbm, ⟨86, _⟩ => ⟨S1x16x2048x2048, .f32⟩
  | .hbm, ⟨87, _⟩ => ⟨S_, .f32⟩
  | .hbm, ⟨88, _⟩ => ⟨S1x16x2048x2048, .f32⟩
  | .hbm, ⟨89, _⟩ => ⟨S1x16x2048x2048, .f32⟩
  | .hbm, ⟨90, _⟩ => ⟨S1x1x2048x2048, .i1⟩
  | .hbm, ⟨91, _⟩ => ⟨S_, .f32⟩
  | .hbm, ⟨92, _⟩ => ⟨S1x16x2048x2048, .i1⟩
  | .hbm, ⟨93, _⟩ => ⟨S1x16x2048x2048, .f32⟩
  | .hbm, ⟨94, _⟩ => ⟨S1x16x2048x2048, .f32⟩
  | .hbm, ⟨95, _⟩ => ⟨S_, .f32⟩
  | .hbm, ⟨96, _⟩ => ⟨S1x16x2048, .f32⟩
  | .hbm, ⟨97, _⟩ => ⟨S_, .f32⟩
  | .hbm, ⟨98, _⟩ => ⟨S1x16x2048, .f32⟩
  | .hbm, ⟨99, _⟩ => ⟨S1x16x2048, .f32⟩
  | .hbm, ⟨100, _⟩ => ⟨S1x16x2048x1, .f32⟩
  | .hbm, ⟨101, _⟩ => ⟨S1x16x2048x2048, .f32⟩
  | .hbm, ⟨102, _⟩ => ⟨S1x16x2048x2048, .f32⟩
  | .hbm, ⟨103, _⟩ => ⟨S1x16x2048x2048, .f32⟩
  | .hbm, ⟨104, _⟩ => ⟨S_, .f32⟩
  | .hbm, ⟨105, _⟩ => ⟨S1x16x2048, .f32⟩
  | .hbm, ⟨106, _⟩ => ⟨S1x16x2048x1, .f32⟩
  | .hbm, ⟨107, _⟩ => ⟨S1x16x2048x2048, .f32⟩
  | .hbm, ⟨108, _⟩ => ⟨S1x16x2048x2048, .f32⟩
  | .hbm, ⟨109, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_c_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_call0_v0 : Ref sig .tc := ⟨.hbm, 92, rfl⟩
abbrev main_call0_v1 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Proof.TileValue.lean ====
/-
  One query tile of the kernel, as a term and at an index.

  A grid point treats its 2048 query rows in 16 tiles of 128 rows. Every tile runs the same operations and differs from
  the others only in the 64-row blocks of keys and values it lays end to end (`n` rows of them) and in two column
  bounds. `tileOps` is that term with `n`, the bounds and the operands left as variables, and `tileOps_apply` reads it
  at a row and a lane: a quotient of two sums over the `n` laid-out rows.
-/
module

public import Idealize.ShloMosaic.Lib.Pipeline.ValueKit
public import Idealize.ShloMosaic.Lib.Pointwise
public import Idealize.ShloMosaic.Lib.MatmulPlain
public import Idealize.ShloMosaic.Lib.ValueIdx

@[expose] public section

set_option maxRecDepth 16384

noncomputable section

open Idealize.ShloMosaic

namespace Cert.Sparse

/-- `n` rows of 64 lanes. -/
abbrev Rows (n : ℕ) : Shape := ⟨2, ![n, 64]⟩
/-- 128 query rows by `n` columns. -/
abbrev Wide (n : ℕ) : Shape := ⟨2, ![128, n]⟩
/-- One query tile as the kernel loads and stores it. -/
abbrev Tile4 : Shape := ⟨4, ![1, 1, 128, 64]⟩

/-- Which columns a query row keeps: the first 64 rows of the tile keep the columns below `a`, the other 64 those below
    `c` and those from `a` on. -/
def keepOps (n c a : ℕ) (h1 : (Wide n).Iotas .tc 32 [1]) (h0 : (Wide n).Iotas .tc 32 [0]) : IVec (Wide n) 1 :=
  let col := iota .tc (Wide n) 32 [1] h1
  let first := cmpi .slt (iota .tc (Wide n) 32 [0] h0) (broadcast (Wide n) 64#32)
  ori (andi first (cmpi .slt col (broadcast (Wide n) (BitVec.ofNat 32 a))))
    (andi (xori first (constantI (Wide n) 1 1#1))
      (ori (cmpi .slt col (broadcast (Wide n) (BitVec.ofNat 32 c))) (cmpi .sge col (broadcast (Wide n) (BitVec.ofNat 32 a)))))

/-- The weights of a tile: the exponential of the scores where the column is kept, zero elsewhere. -/
def weightOps (n c a : ℕ) (h1 : (Wide n).Iotas .tc 32 [1]) (h0 : (Wide n).Iotas .tc 32 [0])
    (hs : Tile4.ShapeCasts (Rows 128)) (hb : FTy.bits .bf16 < FTy.bits .f32)
    (q : FVec Ideal Tile4 .f32) (kc : FVec Ideal (Rows n) .bf16) : FVec Ideal (Wide n) .f32 :=
  select (keepOps n c a h1 h0)
    (exp (matmul (DotDims.transposedRhs 128 64 n) none (truncf .bf16 (shapeCast (Rows 128) q hs) hb) kc
      (constant (Wide n) .f32 0x00000000#32)))
    (broadcast (Wide n) (Scalar.ofBits .f32 0x00000000#32))

/-- What a tile stores. -/
def tileOps (n c a : ℕ) (h1 : (Wide n).Iotas .tc 32 [1]) (h0 : (Wide n).Iotas .tc 32 [0])
    (hs : Tile4.ShapeCasts (Rows 128)) (hb : FTy.bits .bf16 < FTy.bits .f32)
    (hr : (Wide n).Reduces [1] ⟨1, ![128]⟩) (hc : Shape.ShapeCasts ⟨1, ![128]⟩ ⟨2, ![128, 1]⟩)
    (hB : Shape.Broadcasts ⟨2, ![128, 1]⟩ (Rows 128)) (hs' : (Rows 128).ShapeCasts Tile4)
    (q : FVec Ideal Tile4 .f32) (kc vc : FVec Ideal (Rows n) .bf16) : FVec Ideal Tile4 .f32 :=
  let w := weightOps n c a h1 h0 hs hb q kc
  shapeCast Tile4
    (divf (matmul (DotDims.plain 128 n 64) none (truncf .bf16 w hb) vc (constant (Rows 128) .f32 0x00000000#32))
      (broadcastTo (Rows 128)
        (shapeCast ⟨2, ![128, 1]⟩ (multiReduction .add [1] ⟨1, ![128]⟩ w 0x00000000#32 hr (.inl rfl) rfl) hc) hB)) hs'

/-- The column bounds as a proposition. -/
def Keeps (c a r i : ℕ) : Prop := if r < 64 then i < a else i < c ∨ a ≤ i

instance (c a r i : ℕ) : Decidable (Keeps c a r i) := by unfold Keeps; infer_instance

/-- A pair of coordinates names the same index in both of the library's spellings. -/
theorem ix2_eq {n0 n1 : ℕ} (x : Fin n0) (y : Fin n1) : ix2 x y = ValueIdx.ix2 x y := by
  funext b
  match b with
  | ⟨0, _⟩ => rfl
  | ⟨1, _⟩ => rfl

/-- The score product at a row and a column. -/
theorem scores_apply (n : ℕ) (q : FVec Ideal (Rows 128) .bf16) (kc : FVec Ideal (Rows n) .bf16) (r : Fin 128) (i : Fin n) :
    matmul (F := Ideal) (DotDims.transposedRhs 128 64 n) none q kc (constant (Wide n) .f32 0x00000000#32) (ix2 r i)
      = ∑ k : Fin 64, q (ix2 r k) * kc (ix2 i k) := by
  rw [ix2_eq]
  refine (Ideal.matmul_transposedRhs_apply none q kc _ r i).trans ?_
  rw [ValueIdx.constant_apply, Ideal.ofBits_zero, zero_add]
  simp only [ix2_eq]

/-- The weighted sum of the values at a row and a lane. -/
theorem mix_apply (n : ℕ) (w : FVec Ideal (Wide n) .bf16) (vc : FVec Ideal (Rows n) .bf16) (r : Fin 128) (d : Fin 64) :
    matmul (F := Ideal) (DotDims.plain 128 n 64) none w vc (constant (Rows 128) .f32 0x00000000#32) (ix2 r d)
      = ∑ i : Fin n, w (ix2 r i) * vc (ix2 i d) := by
  rw [ix2_eq]
  refine (Ideal.matmul_plain_apply none w vc _ r d).trans ?_
  rw [ValueIdx.constant_apply, Ideal.ofBits_zero, zero_add]
  simp only [ix2_eq]

/-- Signed comparison of two small numbers written as words. -/
theorem slt_ofNat {x y : ℕ} (hx : x < 2 ^ 31) (hy : y < 2 ^ 31) :
    (BitVec.ofNat 32 x).slt (BitVec.ofNat 32 y) = decide (x < y) := by
  rw [BitVec.slt_eq_decide, BitVec.toInt_ofNat', BitVec.toInt_ofNat']
  rw [Int.bmod_eq_of_le (by norm_num) (by norm_num; omega), Int.bmod_eq_of_le (by norm_num) (by norm_num; omega)]
  simp

/-- The mask's bit at a row and a column. -/
theorem keepOps_apply {n c a : ℕ} (h1 : (Wide n).Iotas .tc 32 [1]) (h0 : (Wide n).Iotas .tc 32 [0])
    (hn : n ≤ 2048) (hc : c ≤ 2048) (ha : a ≤ 2048) (r : Fin 128) (i : Fin n) :
    keepOps n c a h1 h0 (ix2 r i) = BitVec.ofBool (decide (Keeps c a r i)) := by
  pointwise [keepOps]
  have h64 : (64#32 : BitVec 32) = BitVec.ofNat 32 64 := rfl
  simp only [IntOp.cmpi, h64]
  rw [slt_ofNat (by omega) (by omega), slt_ofNat (by omega) (by omega), slt_ofNat (by omega) (by omega),
    BitVec.sle_eq_not_slt, slt_ofNat (by omega) (by omega)]
  have e : (a ≤ (i : ℕ)) ↔ ¬ (i : ℕ) < a := by omega
  unfold Keeps
  by_cases hr : (r : ℕ) < 64 <;> by_cases hia : (i : ℕ) < a <;> by_cases hic : (i : ℕ) < c <;>
    simp [hr, hia, hic, e, IntOp.ori, IntOp.andi, IntOp.xori]

/-- The weight at a row and a column. -/
theorem weightOps_apply {n c a : ℕ} (h1 : (Wide n).Iotas .tc 32 [1]) (h0 : (Wide n).Iotas .tc 32 [0])
    (hs : Tile4.ShapeCasts (Rows 128)) (hb : FTy.bits .bf16 < FTy.bits .f32)
    (hn : n ≤ 2048) (hc : c ≤ 2048) (ha : a ≤ 2048)
    (q : FVec Ideal Tile4 .f32) (kc : FVec Ideal (Rows n) .bf16) (r : Fin 128) (i : Fin n) :
    weightOps n c a h1 h0 hs hb q kc (ix2 r i)
      = if Keeps c a r i then Ideal.exp (∑ k : Fin 64, q (ix4 0 0 r k) * kc (ix2 i k)) else 0 := by
  show Scalar.select (keepOps n c a h1 h0 (ix2 r i))
    (Ideal.exp (matmul (F := Ideal) (DotDims.transposedRhs 128 64 n) none (truncf .bf16 (shapeCast (Rows 128) q hs) hb) kc
      (constant (Wide n) .f32 0x00000000#32) (ix2 r i))) (Ideal.ofBits .f32 0x00000000#32) = _
  rw [keepOps_apply h1 h0 hn hc ha, scores_apply]
  have hq : ∀ k : Fin 64, (truncf .bf16 (shapeCast (Rows 128) q hs) hb : FVec Ideal (Rows 128) .bf16) (ix2 r k) = q (ix4 0 0 r k) := by
    intro k
    pointwise
  simp only [hq, Ideal.ofBits_zero_f32]
  by_cases h : Keeps c a r i
  · rw [if_pos h, decide_eq_true h]; rfl
  · rw [if_neg h, decide_eq_false h]; rfl

/-- What a tile stores at a row and a lane: the kept columns' weighted sum of the laid-out values over the sum of their
    weights. -/
theorem tileOps_apply {n c a : ℕ} (h1 : (Wide n).Iotas .tc 32 [1]) (h0 : (Wide n).Iotas .tc 32 [0])
    (hs : Tile4.ShapeCasts (Rows 128)) (hb : FTy.bits .bf16 < FTy.bits .f32)
    (hr : (Wide n).Reduces [1] ⟨1, ![128]⟩) (hcc : Shape.ShapeCasts ⟨1, ![128]⟩ ⟨2, ![128, 1]⟩)
    (hB : Shape.Broadcasts ⟨2, ![128, 1]⟩ (Rows 128)) (hs' : (Rows 128).ShapeCasts Tile4)
    (q : FVec Ideal Tile4 .f32) (kc vc : FVec Ideal (Rows n) .bf16) (r : Fin 128) (d : Fin 64) :
    tileOps n c a h1 h0 hs hb hr hcc hB hs' q kc vc (ix4 0 0 r d)
      = Ideal.div (∑ i : Fin n, weightOps n c a h1 h0 hs hb q kc (ix2 r i) * vc (ix2 i d))
          (∑ i : Fin n, weightOps n c a h1 h0 hs hb q kc (ix2 r i)) := by
  unfold tileOps
  generalize weightOps n c a h1 h0 hs hb q kc = w
  pointwise
  exact congrArg (fun x => Ideal.div x _) (mix_apply n w vc r d)

end Cert.Sparse

end
-- ==== Proof.Pattern.lean ====
/-
  The block pattern of the attention: which 64-column block of keys a 64-row block of queries attends to when no global
  token is set and nothing is padded. A block attends to the blocks at distance at most two and to the three blocks the
  random table names for it.
-/
module

public import Mathlib.Data.Fin.VecNotation
public import Mathlib.Data.Fintype.Basic
public import Mathlib.Data.Real.Basic

@[expose] public section

namespace Cert.Sparse

/-- The random table of the reference: three key blocks for each query block. -/
def randTable : Fin 32 → Fin 3 → Fin 32 := ![
  ![4, 18, 23], ![1, 13, 11], ![1, 7, 6], ![2, 8, 18], ![25, 27, 12], ![18, 11, 2], ![3, 7, 22], ![11, 12, 3],
  ![12, 17, 16], ![27, 28, 23], ![5, 4, 21], ![14, 19, 20], ![14, 18, 17], ![13, 7, 4], ![23, 29, 25], ![0, 28, 4],
  ![3, 13, 20], ![27, 18, 19], ![24, 23, 11], ![18, 27, 25], ![25, 6, 0], ![8, 3, 25], ![20, 0, 2], ![25, 12, 5],
  ![19, 13, 4], ![28, 14, 10], ![17, 1, 23], ![16, 21, 12], ![17, 24, 24], ![24, 8, 30], ![31, 21, 30], ![24, 19, 25]]

/-- Query block `i` attends to key block `b`. -/
def Attends (i b : Fin 32) : Prop := (i.val ≤ b.val + 2 ∧ b.val ≤ i.val + 2) ∨ ∃ k : Fin 3, randTable i k = b

instance (i b : Fin 32) : Decidable (Attends i b) := by unfold Attends; infer_instance

/-- Every block attends to itself. -/
theorem attends_self (i : Fin 32) : Attends i i := Or.inl ⟨by omega, by omega⟩

/-- The block of a row. -/
def blk (r : Fin 2048) : Fin 32 := ⟨r.val / 64, by omega⟩

end Cert.Sparse
-- ==== Proof.Gather.lean ====
/-
  The laid-out rows of a query tile. The kernel lays `N` blocks of 64 rows, named by a list of block numbers, end to end
  and masks some of them per query row. This module reads the laid-out array at an index, and turns a masked sum over the
  laid-out rows into the sum over the rows of the whole array whose block the pattern selects: it suffices that the kept
  positions name every selected block exactly once.
-/
module

public import proofs.«01_k».proof.Proof.TileValue
public import proofs.«01_k».proof.Proof.Pattern
public import Idealize.ShloMosaic.Lib.Pipeline.Value

@[expose] public section

set_option maxRecDepth 16384

noncomputable section

open Idealize.ShloMosaic

namespace Cert.Sparse

/-- A block of 64 rows lies within the 2048. -/
theorem block_inb (b : Fin 32) : ∀ a : Fin 2, (![64 * b.val, 0] : Fin 2 → ℕ) a + (![64, 64] : Fin 2 → ℕ) a ≤ (Rows 2048).size a := by
  intro a
  match a with
  | ⟨0, _⟩ => show 64 * b.val + 64 ≤ 2048; omega
  | ⟨1, _⟩ => show 0 + 64 ≤ 64; omega

/-- Block `b` of an array of 2048 rows, as the kernel loads it. -/
def blockOf (X : FVec Ideal (Rows 2048) .bf16) (b : Fin 32) : FVec Ideal (Rows 64) .bf16 :=
  View.ld (Val := Elt Ideal) (e' := .bf16) X (Rect.unit ![64 * b.val, 0] ![64, 64] (block_inb b))

/-- A block read at a row and a lane. -/
theorem blockOf_apply (X : FVec Ideal (Rows 2048) .bf16) (b : Fin 32) (x d : Fin 64) :
    blockOf X b (ix2 x d) = X (ix2 ⟨64 * b.val + x.val, by omega⟩ d) := by
  unfold blockOf
  refine View.ld_unit_apply_of (Val := Elt Ideal) (e := .bf16) X _ _ _ _ _ fun a => ?_
  match a with
  | ⟨0, _⟩ => rfl
  | ⟨1, _⟩ => exact (Nat.zero_add _).symm

/-- The pieces laid end to end all have the block's shape. -/
theorem shapes_laid {α : Type} {N : ℕ} (f : Fin N → (Rows 64).Idx → α) :
    (List.ofFn fun n : Fin N => (⟨Rows 64, f n⟩ : (s : Shape) × (s.Idx → α))).map (·.1) = List.replicate N (Rows 64) := by
  rw [List.map_ofFn]
  exact List.ofFn_const N (Rows 64)

/-- `N` blocks laid end to end. -/
def laid (N : ℕ) (L : Fin N → Fin 32) (X : FVec Ideal (Rows 2048) .bf16)
    (h : Shape.Concatenates (List.replicate N (Rows 64)) (Rows (N * 64)) 0) : FVec Ideal (Rows (N * 64)) .bf16 :=
  concatenate (Rows (N * 64)) 0 (List.ofFn fun n : Fin N => ⟨Rows 64, blockOf X (L n)⟩) (by rw [shapes_laid]; exact h)

/-- The row of the whole array that laid-out row `i` is. -/
def srcRow {N : ℕ} (L : Fin N → Fin 32) (i : Fin (N * 64)) : Fin 2048 :=
  ⟨64 * (L ⟨i.val / 64, by omega⟩).val + i.val % 64, by omega⟩

/-- The laid-out array read at a row and a lane. -/
theorem laid_apply {N : ℕ} (L : Fin N → Fin 32) (X : FVec Ideal (Rows 2048) .bf16)
    (h : Shape.Concatenates (List.replicate N (Rows 64)) (Rows (N * 64)) 0) (i : Fin (N * 64)) (d : Fin 64) :
    laid N L X h (ix2 i d) = X (ix2 (srcRow L i) d) := by
  unfold laid
  have hi : i.val / 64 < N := by omega
  refine (concatenate_ofFn_apply (0 : Fin (Rows (N * 64)).rank) (fun n : Fin N => blockOf X (L n)) _ rfl 64 rfl (ix2 i d)
    ⟨i.val / 64, hi⟩ rfl (ix2 ⟨i.val % 64, by omega⟩ d) rfl ?_).trans (blockOf_apply X _ _ _)
  intro b hb
  match b with
  | ⟨0, _⟩ => exact absurd rfl hb
  | ⟨1, _⟩ => rfl

/-- A masked sum over laid-out rows is the sum over the rows whose block is selected, when the kept positions name every
    selected block exactly once. -/
theorem sum_laid {N : ℕ} (L : Fin N → Fin 32) (P : Fin N → Prop) [DecidablePred P] (M : Fin 32 → Prop) [DecidablePred M]
    (hinj : ∀ x y, P x → P y → L x = L y → x = y) (himg : ∀ b, M b ↔ ∃ x, P x ∧ L x = b) (g : Fin 2048 → EReal) :
    (∑ i : Fin (N * 64), if P ⟨i.val / 64, by omega⟩ then g (srcRow L i) else 0)
      = ∑ j : Fin 2048, if M (blk j) then g j else 0 := by
  let G : Fin 32 → EReal := fun b => ∑ x : Fin 64, g ⟨64 * b.val + x.val, by omega⟩
  have hl : (∑ i : Fin (N * 64), if P ⟨i.val / 64, by omega⟩ then g (srcRow L i) else 0)
      = ∑ n : Fin N, if P n then G (L n) else 0 := by
    rw [← Equiv.sum_comp (finProdFinEquiv (m := N) (n := 64)), Fintype.sum_prod_type]
    refine Finset.sum_congr rfl fun n _ => ?_
    have hd : ∀ x : Fin 64, (finProdFinEquiv (n, x)).val / 64 = n.val := fun x => by
      simp only [finProdFinEquiv_apply_val]; omega
    have hm : ∀ x : Fin 64, (finProdFinEquiv (n, x)).val % 64 = x.val := fun x => by
      simp only [finProdFinEquiv_apply_val]; omega
    have hn : ∀ (x : Fin 64) (p), (⟨(finProdFinEquiv (n, x)).val / 64, p⟩ : Fin N) = n := fun x p => Fin.ext (hd x)
    have hs : ∀ x : Fin 64, srcRow L (finProdFinEquiv (n, x)) = ⟨64 * (L n).val + x.val, by omega⟩ := fun x => by
      unfold srcRow; simp only [hn, hm]
    simp only [hn, hs]
    by_cases hp : P n
    · simp only [if_pos hp]; rfl
    · simp only [if_neg hp, Finset.sum_const_zero]
  have hr : (∑ j : Fin 2048, if M (blk j) then g j else 0) = ∑ b : Fin 32, if M b then G b else 0 := by
    rw [show (∑ j : Fin 2048, if M (blk j) then g j else 0) = ∑ j : Fin (32 * 64), if M (blk j) then g j else 0 from rfl,
      ← Equiv.sum_comp (finProdFinEquiv (m := 32) (n := 64)), Fintype.sum_prod_type]
    refine Finset.sum_congr rfl fun b _ => ?_
    have hb : ∀ x : Fin 64, blk (finProdFinEquiv (b, x)) = b := fun x => Fin.ext (by
      show (finProdFinEquiv (b, x)).val / 64 = b.val
      simp only [finProdFinEquiv_apply_val]; omega)
    have hs : ∀ x : Fin 64, (finProdFinEquiv (b, x) : Fin 2048) = ⟨64 * b.val + x.val, by omega⟩ := fun x => Fin.ext (by
      simp only [finProdFinEquiv_apply_val]; omega)
    simp only [hb]
    by_cases hp : M b
    · simp only [if_pos hp]
      exact Finset.sum_congr rfl fun x _ => congrArg g (hs x)
    · simp only [if_neg hp, Finset.sum_const_zero]
  rw [hl, hr, ← Finset.sum_filter, ← Finset.sum_filter]
  refine Finset.sum_bij (fun n _ => L n) ?_ ?_ ?_ ?_
  · intro n hn
    rw [Finset.mem_filter] at hn ⊢
    exact ⟨Finset.mem_univ _, (himg _).mpr ⟨n, hn.2, rfl⟩⟩
  · intro x hx y hy
    rw [Finset.mem_filter] at hx hy
    exact hinj x y hx.2 hy.2
  · intro b hb
    rw [Finset.mem_filter] at hb
    obtain ⟨x, hx, he⟩ := (himg b).mp hb.2
    exact ⟨x, Finset.mem_filter.mpr ⟨Finset.mem_univ _, hx⟩, he⟩
  · intro n _
    rfl

end Cert.Sparse

end
-- ==== Proof.Tiles.lean ====
/-
  What one query tile stores, in terms of the arrays: at a row and a lane, the attention of that row over the key rows
  whose block the pattern selects (`attn`). One theorem serves all 16 tiles; a tile enters by its block list and its two
  bounds, and what has to hold of them (`Lists`) is decided.
-/
module

public import proofs.«01_k».proof.Proof.Gather
public import proofs.«01_k».proof.Proof.Gen.KernelIdeal.Skeleton

@[expose] public section

set_option maxRecDepth 16384

noncomputable section

open Idealize.ShloMosaic

namespace Cert.Sparse

/-- One head's array of 2048 rows, with its leading unit axes. -/
abbrev Head4 : Shape := ⟨4, ![1, 1, 2048, 64]⟩

/-- The unnormalised weight of key row `j` for query row `i`: the exponential of their product, the keys scaled by an eighth. -/
def weight (Q K : FVec Ideal Head4 .f32) (i j : Fin 2048) : EReal :=
  Ideal.exp (∑ k : Fin 64, Q (ix4 0 0 i k) * (K (ix4 0 0 j k) * ((1 / 8 : ℝ) : EReal)))

/-- The attention of query row `i` at lane `d` over the key rows its block attends to: no maximum is subtracted. -/
def attn (Q K V : FVec Ideal Head4 .f32) (i : Fin 2048) (d : Fin 64) : EReal :=
  Ideal.div (∑ j : Fin 2048, if Attends (blk i) (blk j) then weight Q K i j * V (ix4 0 0 j d) else 0)
    (∑ j : Fin 2048, if Attends (blk i) (blk j) then weight Q K i j else 0)

/-- The kept positions of a tile for one half of its rows. -/
def Kept (c a : ℕ) (h n : ℕ) : Prop := if h = 0 then n < a else n < c ∨ a ≤ n

instance (c a h n : ℕ) : Decidable (Kept c a h n) := by unfold Kept; infer_instance

/-- A tile's block list and bounds are right: for either half of its rows the kept positions name distinct blocks, and
    these are the blocks the half's own block attends to. -/
def Lists {N : ℕ} (T : Fin 16) (L : Fin N → Fin 32) (c a : ℕ) : Prop :=
  ∀ h : Fin 2, (∀ x y : Fin N, Kept c a h x → Kept c a h y → L x = L y → x = y)
    ∧ ∀ b : Fin 32, Attends ⟨2 * T.val + h.val, by omega⟩ b ↔ ∃ x : Fin N, Kept c a h x ∧ L x = b

instance {N : ℕ} (T : Fin 16) (L : Fin N → Fin 32) (c a : ℕ) : Decidable (Lists T L c a) := by unfold Lists; infer_instance

/-- The scale the keys are multiplied by is an eighth. -/
theorem eighth : Ideal.ofBits .f32 0x3E000000#32 = ((1 / 8 : ℝ) : EReal) := by
  simp [Ideal.ofBits, Ideal.ieee]
  rw [← EReal.coe_mul, EReal.coe_eq_coe_iff]
  norm_num

/-- The scaled keys at a row and a lane. -/
theorem scaledKeys_apply (K : FVec Ideal Head4 .f32) (j : Fin 2048) (k : Fin 64) :
    KernelIdeal.Gen.k0_pay1 (F := Ideal) K (ix2 j k) = K (ix4 0 0 j k) * ((1 / 8 : ℝ) : EReal) := by
  rw [← eighth]
  pointwise [KernelIdeal.Gen.k0_pay1]

/-- The values at a row and a lane. -/
theorem values_apply (V : FVec Ideal Head4 .f32) (j : Fin 2048) (k : Fin 64) :
    KernelIdeal.Gen.k0_pay2 (F := Ideal) V (ix2 j k) = V (ix4 0 0 j k) := by
  pointwise [KernelIdeal.Gen.k0_pay2]

/-- A tile of 128 rows lies within the 2048. -/
theorem tile_inb (T : Fin 16) : ∀ a : Fin 4, (![0, 0, 128 * T.val, 0] : Fin 4 → ℕ) a + (![1, 1, 128, 64] : Fin 4 → ℕ) a ≤ Head4.size a := by
  intro a
  match a with
  | ⟨0, _⟩ => exact le_refl 1
  | ⟨1, _⟩ => exact le_refl 1
  | ⟨2, _⟩ => show 128 * T.val + 128 ≤ 2048; omega
  | ⟨3, _⟩ => exact le_refl 64

/-- The rectangle of tile `T` in one head's array. -/
def tileRect (T : Fin 16) : Rect Head4 := Rect.unit ![0, 0, 128 * T.val, 0] ![1, 1, 128, 64] (tile_inb T)

/-- The row of the array that row `r` of tile `T` is. -/
def tileRow (T : Fin 16) (r : Fin 128) : Fin 2048 := ⟨128 * T.val + r.val, by omega⟩

/-- The queries of tile `T`, as the kernel loads them. -/
def queryTile (Q : FVec Ideal Head4 .f32) (T : Fin 16) : FVec Ideal Tile4 .f32 := View.ld (Val := Elt Ideal) (e' := .f32) Q (tileRect T)

/-- A query tile read at a row and a lane. -/
theorem queries_apply (Q : FVec Ideal Head4 .f32) (T : Fin 16) (r : Fin 128) (k : Fin 64) :
    queryTile Q T (ix4 0 0 r k) = Q (ix4 0 0 (tileRow T r) k) := by
  unfold queryTile tileRect
  refine View.ld_unit_apply_of (Val := Elt Ideal) (e := .f32) Q _ _ _ _ _ fun a => ?_
  match a with
  | ⟨0, _⟩ => rfl
  | ⟨1, _⟩ => rfl
  | ⟨2, _⟩ => rfl
  | ⟨3, _⟩ => exact (Nat.zero_add _).symm

/-- What tile `T` stores at a row and a lane is the attention of that row, whatever block list and bounds it uses, as long
    as they are right. -/
theorem tile_value {N c a : ℕ} (T : Fin 16) (L : Fin N → Fin 32) (hL : Lists T L c a) (hN : N ≤ 32) (hc : c ≤ 32) (ha : a ≤ 32)
    (h1 : (Wide (N * 64)).Iotas .tc 32 [1]) (h0 : (Wide (N * 64)).Iotas .tc 32 [0])
    (hs : Tile4.ShapeCasts (Rows 128)) (hb : FTy.bits .bf16 < FTy.bits .f32)
    (hr : (Wide (N * 64)).Reduces [1] ⟨1, ![128]⟩) (hcc : Shape.ShapeCasts ⟨1, ![128]⟩ ⟨2, ![128, 1]⟩)
    (hB : Shape.Broadcasts ⟨2, ![128, 1]⟩ (Rows 128)) (hs' : (Rows 128).ShapeCasts Tile4)
    (hk : Shape.Concatenates (List.replicate N (Rows 64)) (Rows (N * 64)) 0)
    (Q K V : FVec Ideal Head4 .f32) (r : Fin 128) (d : Fin 64) :
    tileOps (N * 64) (64 * c) (64 * a) h1 h0 hs hb hr hcc hB hs' (queryTile Q T)
        (laid N L (KernelIdeal.Gen.k0_pay1 (F := Ideal) K) hk)
        (laid N L (KernelIdeal.Gen.k0_pay2 (F := Ideal) V) hk) (ix4 0 0 r d)
      = attn Q K V (tileRow T r) d := by
  have hrb : (r.val / 64) < 2 := by omega
  have hblk : blk (tileRow T r) = ⟨2 * T.val + (⟨r.val / 64, hrb⟩ : Fin 2).val, by omega⟩ := Fin.ext (by
    show (128 * T.val + r.val) / 64 = 2 * T.val + r.val / 64
    omega)
  obtain ⟨hinj, himg⟩ := hL ⟨r.val / 64, hrb⟩
  have hkeep : ∀ i : Fin (N * 64), Keeps (64 * c) (64 * a) r i ↔ Kept c a (r.val / 64) (i.val / 64) := fun i => by
    unfold Keeps Kept
    by_cases hr64 : r.val < 64
    · rw [if_pos hr64, if_pos (by omega)]; omega
    · rw [if_neg hr64, if_neg (by omega)]; omega
  rw [tileOps_apply]
  simp only [weightOps_apply h1 h0 hs hb (show N * 64 ≤ 2048 by omega) (show 64 * c ≤ 2048 by omega) (show 64 * a ≤ 2048 by omega),
    queries_apply, laid_apply, scaledKeys_apply, values_apply, hkeep, ite_mul, zero_mul]
  unfold attn
  rw [hblk]
  congr 1
  · exact sum_laid L (fun n => Kept c a (r.val / 64) n) _ hinj himg
      (fun j => weight Q K (tileRow T r) j * V (ix4 0 0 j d))
  · exact sum_laid L (fun n => Kept c a (r.val / 64) n) _ hinj himg (fun j => weight Q K (tileRow T r) j)

end Cert.Sparse

end
-- ==== Proof.KernelValue.lean ====
/-
  What one grid point of the kernel leaves in its result block.

  A grid point is one head. Its run leaves 16 stored tiles in the result block. Each tile is an instance of `tile_value`
  (`tile_piece`), and the tiles cover the block (`outs_eq`): row `i` and lane `d` hold the attention of row `i` over the key
  rows its block attends to (`attn`), of the head's own queries, keys and values.
-/
module

public import proofs.«01_k».proof.Proof.Tiles
public import proofs.«01_k».proof.Proof.Gen.KernelIdeal.Value
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem
open Idealize.ShloMosaic.Pipeline (Dat)

namespace Cert.Sparse

open Cert.KernelIdeal Cert.KernelIdeal.Gen

/-- One head's attention as a block. -/
def attnBlock (Q K V : FVec Ideal Head4 .f32) : FVec Ideal Head4 .f32 := fun y => attn Q K V (y 2) (y 3)

/-- A tile with right lists stores its rectangle of the head's attention. -/
theorem tile_piece {N : ℕ} (T : Fin 16) (L : Fin N → Fin 32) (c a : ℕ) (hL : Lists T L c a ∧ N ≤ 32 ∧ c ≤ 32 ∧ a ≤ 32)
    (Q K V : FVec Ideal Head4 .f32)
    (h1 : (Wide (N * 64)).Iotas .tc 32 [1] := by decide) (h0 : (Wide (N * 64)).Iotas .tc 32 [0] := by decide)
    (hs : Tile4.ShapeCasts (Rows 128) := by decide) (hb : FTy.bits .bf16 < FTy.bits .f32 := by decide)
    (hr : (Wide (N * 64)).Reduces [1] ⟨1, ![128]⟩ := by decide) (hcc : Shape.ShapeCasts ⟨1, ![128]⟩ ⟨2, ![128, 1]⟩ := by decide)
    (hB : Shape.Broadcasts ⟨2, ![128, 1]⟩ (Rows 128) := by decide) (hs' : (Rows 128).ShapeCasts Tile4 := by decide)
    (hk : Shape.Concatenates (List.replicate N (Rows 64)) (Rows (N * 64)) 0 := by decide) (x : (tileRect T).shape.Idx) :
    tileOps (N * 64) (64 * c) (64 * a) h1 h0 hs hb hr hcc hB hs' (queryTile Q T)
        (laid N L (k0_pay1 (F := Ideal) K) hk) (laid N L (k0_pay2 (F := Ideal) V) hk) x
      = attnBlock Q K V ((tileRect T).emb x) := by
  have hx : x = (ix4 0 0 (x 2) (x 3) : Tile4.Idx) := by
    funext b
    match b with
    | ⟨0, _⟩ => exact Subsingleton.elim (α := Fin 1) _ _
    | ⟨1, _⟩ => exact Subsingleton.elim (α := Fin 1) _ _
    | ⟨2, _⟩ => rfl
    | ⟨3, _⟩ => rfl
  refine (congrArg _ hx).trans ((tile_value T L hL.1 hL.2.1 hL.2.2.1 hL.2.2.2 h1 h0 hs hb hr hcc hB hs' hk Q K V (x 2) (x 3)).trans ?_)
  unfold attnBlock
  congr 1
  · apply Fin.ext
    show 128 * T.val + (x 2).val = 128 * T.val + 1 * (x 2).val
    omega
  · apply Fin.ext
    show (x 3).val = 0 + 1 * (x 3).val
    omega

variable (m : (ℓ : Loc nD τ sig) → Buf (Elt Ideal) ℓ)

set_option maxHeartbeats 4000000 in
/-- What one grid point leaves in the result block: the head's attention. -/
theorem outs_eq (c : Dev nD) (t : Fin cfg0.N) :
    outsAt0 m c t = attnBlock (iblk m c 0 t) (iblk m c 1 t) (iblk m c 2 t) := by
  unfold outsAt0
  frame_open
  simp (disch := decide) only [↓ View.readCov_skip, ↓ View.readCov_cons_toLoadRect, ↓ View.readCov_fill]
  frame_out
  generalize iblk m c 0 t = Q
  generalize iblk m c 1 t = K
  generalize iblk m c 2 t = V
  funext y
  refine View.canon_apply_of_pieces (Val := Elt Ideal) (e := .f32) (attnBlock Q K V) _ (View.PiecesOf.mem ?_) y ?_
  · exact ⟨
      tile_piece 15 ![29, 30, 31, 21, 28, 19, 24, 25] 3 5 (by decide +kernel) Q K V,
      tile_piece 14 ![24, 27, 28, 29, 30, 17, 26, 8, 31] 5 7 (by decide +kernel) Q K V,
      tile_piece 13 ![25, 26, 27, 28, 1, 17, 23, 24, 12, 16, 21, 29] 4 8 (by decide +kernel) Q K V,
      tile_piece 12 ![23, 24, 25, 26, 4, 13, 19, 22, 10, 14, 27, 28] 4 8 (by decide +kernel) Q K V,
      tile_piece 11 ![21, 22, 23, 24, 0, 2, 20, 5, 12, 25] 4 7 (by decide +kernel) Q K V,
      tile_piece 10 ![19, 20, 21, 22, 25, 0, 6, 18, 3, 8, 23] 5 8 (by decide +kernel) Q K V,
      tile_piece 9 ![17, 18, 19, 20, 11, 16, 23, 24, 21, 25, 27] 4 8 (by decide +kernel) Q K V,
      tile_piece 8 ![15, 16, 17, 18, 3, 13, 14, 20, 19, 27] 4 8 (by decide +kernel) Q K V,
      tile_piece 7 ![13, 14, 15, 16, 12, 23, 25, 29, 0, 4, 17, 28] 4 8 (by decide +kernel) Q K V,
      tile_piece 6 ![11, 12, 13, 14, 10, 17, 18, 4, 7, 15] 4 7 (by decide +kernel) Q K V,
      tile_piece 5 ![9, 10, 11, 12, 4, 5, 8, 21, 13, 14, 19, 20] 4 8 (by decide +kernel) Q K V,
      tile_piece 4 ![7, 8, 9, 10, 6, 12, 16, 17, 11, 23, 27, 28] 4 8 (by decide +kernel) Q K V,
      tile_piece 3 ![3, 5, 6, 7, 8, 4, 22, 9, 11, 12] 5 7 (by decide +kernel) Q K V,
      tile_piece 2 ![2, 3, 4, 5, 6, 12, 25, 27, 7, 11, 18] 5 8 (by decide +kernel) Q K V,
      tile_piece 1 ![1, 2, 3, 4, 0, 6, 7, 5, 8, 18] 4 7 (by decide +kernel) Q K V,
      tile_piece 0 ![0, 1, 2, 4, 18, 23, 3, 11, 13] 3 6 (by decide +kernel) Q K V,
      trivial⟩
  · exact View.cover_of_tiledL (s := S1x1x2048x64) _ S1x1x128x64.size (by sl_kernel_rfl) y

end Cert.Sparse

end
-- ==== Proof.Result.lean ====
/-
  The kernel's whole result array: at head `h`, row `i` and lane `d` the attention of row `i` of that head (`attn`), of the
  head's own queries, keys and values. Grid point `t` reads head `t` of each input array and writes head `t` of the result.
-/
module

public import proofs.«01_k».proof.Proof.KernelValue

@[expose] public section

set_option maxRecDepth 16384

noncomputable section

open Idealize.ShloMosaic Idealize.ShloMosaic.TcCoe Idealize.SL.Sem
open Idealize.ShloMosaic.Pipeline (Dat)

namespace Cert.Sparse

open Cert.KernelIdeal Cert.KernelIdeal.Gen

variable (m : (ℓ : Loc nD τ sig) → Buf (Elt Ideal) ℓ)

/-- Head `h` of a whole array, as an array of one head. -/
def headOf (A : FVec Ideal S1x16x2048x64 .f32) (h : Fin 16) : FVec Ideal Head4 .f32 := fun y => A (Idealize.ShloMosaic.ix4 0 h (y 2) (y 3))

/-- Attention of every head of the whole arrays. -/
def attnAll (Q K V : FVec Ideal S1x16x2048x64 .f32) : FVec Ideal S1x16x2048x64 .f32 := fun y =>
  attn (headOf Q (y 1)) (headOf K (y 1)) (headOf V (y 1)) (y 2) (y 3)

/-- Grid point `t` reads and writes head `t`. -/
theorem index_eq : (∀ t : Fin cfg0.N, win0_0.index t = ![0, t.val, 0, 0]) ∧ (∀ t : Fin cfg0.N, win0_1.index t = ![0, t.val, 0, 0])
    ∧ (∀ t : Fin cfg0.N, win0_2.index t = ![0, t.val, 0, 0]) ∧ (∀ t : Fin cfg0.N, win0_3.index t = ![0, t.val, 0, 0]) := by
  decide +kernel

/-- The grid point's number as a head. -/
def headNo (t : Fin cfg0.N) : Fin 16 := ⟨t.val, t.isLt⟩

/-- The query block of grid point `t` is head `t` of the queries. -/
theorem block_queries (c : Dev nD) (t : Fin cfg0.N) : iblk m c 0 t = headOf (m ((c : Thread nD τ).loc main_arg0)) (headNo t) := by
  funext y
  have e := index_eq.1
  idx_bounds y
  blk_simp [iblk]
  refine congrArg (m ((c : Thread nD τ).loc main_arg0)) ?_
  funext a
  apply Fin.ext
  fin_cases a <;> blk_simp [e] <;> first | rfl | exact Nat.lt_one_iff.mp hb0 | exact (Nat.add_eq_left.mpr (Nat.lt_one_iff.mp hb1))

/-- The key block of grid point `t` is head `t` of the keys. -/
theorem block_keys (c : Dev nD) (t : Fin cfg0.N) : iblk m c 1 t = headOf (m ((c : Thread nD τ).loc main_arg1)) (headNo t) := by
  funext y
  have e := index_eq.2.1
  idx_bounds y
  blk_simp [iblk]
  refine congrArg (m ((c : Thread nD τ).loc main_arg1)) ?_
  funext a
  apply Fin.ext
  fin_cases a <;> blk_simp [e] <;> first | rfl | exact Nat.lt_one_iff.mp hb0 | exact (Nat.add_eq_left.mpr (Nat.lt_one_iff.mp hb1))

/-- The value block of grid point `t` is head `t` of the values. -/
theorem block_values (c : Dev nD) (t : Fin cfg0.N) : iblk m c 2 t = headOf (m ((c : Thread nD τ).loc main_arg2)) (headNo t) := by
  funext y
  have e := index_eq.2.2.1
  idx_bounds y
  blk_simp [iblk]
  refine congrArg (m ((c : Thread nD τ).loc main_arg2)) ?_
  funext a
  apply Fin.ext
  fin_cases a <;> blk_simp [e] <;> first | rfl | exact Nat.lt_one_iff.mp hb0 | exact (Nat.add_eq_left.mpr (Nat.lt_one_iff.mp hb1))

/-- The kernel's whole result: every head's attention. -/
theorem result_eq (c : Dev nD) : (dats m 0 c).arrAt 3 cfg0.N
    = attnAll (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := index_eq.2.2.2
  blk_simp
  rw [after0_3, outs_eq, block_queries, block_keys, block_values]
  unfold attnBlock attnAll
  idx_bounds y
  have h1 : (win0_3.blk t).view.emb y 1 = headNo t := by
    apply Fin.ext
    blk_simp [e]
    rfl
  have h2 : (win0_3.blk t).view.emb y 2 = y 2 := by
    apply Fin.ext
    blk_simp [e]
  have h3 : (win0_3.blk t).view.emb y 3 = y 3 := by
    apply Fin.ext
    blk_simp [e]
  rw [h1, h2, h3]

end Cert.Sparse

end
-- ==== Proof.RefMask.lean ====
/-
  The reference's mask, read at a query row and a key row, when no global token is set and nothing is padded: the two rows'
  blocks attend to each other (`Attends`). The mask is built over blocks (local window, scattered random table, the blocks
  that hold a global token), repeated 64 times along each axis, and joined with the token masks.
-/
module

public import proofs.«01_k».proof.Proof.Pattern
public import proofs.«01_k».proof.Proof.TileValue
public import proofs.«01_k».proof.Proof.Gen.ReferenceIdeal.Run
public import Idealize.ShloMosaic.Lib.Routing.OpsSet
public import Idealize.ShloMosaic.Lib.Routing.OpsPair
public import Idealize.ShloMosaic.Lib.Affine

@[expose] public section

set_option maxRecDepth 16384

noncomputable section

open Idealize.ShloMosaic Idealize.ShloMosaic.TcCoe

namespace Cert.Sparse.Ref

open Cert.ReferenceIdeal Cert.ReferenceIdeal.Gen Cert.Sparse

/-- The block indices `0 … 31` as a column. -/
def rowIds : IVec S32x1 32 := broadcastInDim S32x1 ![0] bcast_S32_S32x1_0 (iotaInDim S32 32 0)

/-- The block indices `0 … 31` as a row. -/
def colIds : IVec S1x32 32 := broadcastInDim S1x32 ![1] bcast_S32_S1x32_1 (iotaInDim S32 32 0)

/-- The random table as the reference holds it. -/
def randWords : IVec S32x3 32 := fun i => lit0 (S32x3.rowMajor i)

/-- The local window: blocks at distance at most two. -/
def localMask : IVec S32x32 1 :=
  cmpi .sle (absi (subi (broadcastInDim S32x32 ![0, 1] bcast_S32x1_S32x32_0_1 rowIds) (broadcastInDim S32x32 ![0, 1] bcast_S1x32_S32x32_0_1 colIds)))
    (broadcastInDim S32x32 ![] bcast_S_S32x32 (constantI S_ 32 2#32))

/-- The row word of each scattered update: its block index, wrapped if it were negative. -/
def rowWords : IVec S32x3x1 32 :=
  broadcastInDim S32x3x1 ![0, 1] bcast_S32x3_S32x3x1_0_1 (broadcastInDim S32x3 ![0, 1] bcast_S32x1_S32x3_0_1
    (select (cmpi .slt rowIds (broadcastInDim S32x1 ![] bcast_S_S32x1 (constantI S_ 32 0#32)))
      (addi rowIds (broadcastInDim S32x1 ![] bcast_S_S32x1 (constantI S_ 32 32#32))) rowIds))

/-- The column word of each scattered update: the table's entry, wrapped if it were negative. -/
def colWords : IVec S32x3x1 32 :=
  broadcastInDim S32x3x1 ![0, 1] bcast_S32x3_S32x3x1_0_1
    (select (cmpi .slt randWords (broadcastInDim S32x3 ![] bcast_S_S32x3 (constantI S_ 32 0#32)))
      (addi randWords (broadcastInDim S32x3 ![] bcast_S_S32x3 (constantI S_ 32 32#32))) randWords)

/-- The two words of each scattered update side by side. -/
def pairWords : IVec S32x3x2 32 :=
  concatenate S32x3x2 2 [⟨S32x3x1, rowWords⟩, ⟨S32x3x1, colWords⟩] concatenates_S32x3x1_S32x3x1_S32x3x2_d2

/-- The random blocks: ones scattered into zeros at the table's places. -/
def randMask : IVec S32x32 1 :=
  Host.scatter scatter_S32x32_S32x3x2_S32x3_n_01_01_2 (fun _ b => b) (broadcastInDim S32x32 ![] bcast_S_S32x32 (constantI S_ 1 0#1)) pairWords
    (broadcastInDim S32x3 ![] bcast_S_S32x3 (constantI S_ 1 1#1))

/-- Which blocks hold a global token. -/
def globalBlocks (g : IVec S1x2048 32) : IVec S1x32 1 :=
  cmpi .sgt (Host.reduce IntOp.maxsi (shapeCast _ g shapeCasts_S1x2048_S1x32x64) (constantI S_ 32 2147483648#32) reducesTo_S1x32x64_S1x32_d2 h_S_)
    (broadcastInDim S1x32 ![] bcast_S_S1x32 (constantI S_ 32 0#32))

/-- The mask over blocks. -/
def blockMask (gq gk : IVec S1x2048 32) : IVec S1x32x32 1 :=
  ori (ori (broadcastInDim S1x32x32 ![1, 2] bcast_S32x32_S1x32x32_1_2 (ori localMask randMask))
    (broadcastInDim S1x32x32 ![0, 1, 2] bcast_S1x1x32_S1x32x32_0_1_2 (broadcastInDim S1x1x32 ![0, 2] bcast_S1x32_S1x1x32_0_2 (globalBlocks gk))))
    (broadcastInDim S1x32x32 ![0, 1, 2] bcast_S1x32x1_S1x32x32_0_1_2 (broadcastInDim S1x32x1 ![0, 1] bcast_S1x32_S1x32x1_0_1 (globalBlocks gq)))

/-- The block mask repeated 64 times along each axis. -/
def wideMask (b : IVec S1x32x32 1) : IVec S1x2048x2048 1 :=
  shapeCast _ (broadcastInDim S1x2048x32x64 ![0, 1, 2] bcast_S1x2048x32_S1x2048x32x64_0_1_2
    (shapeCast _ (broadcastInDim S1x32x64x32 ![0, 1, 3] bcast_S1x32x32_S1x32x64x32_0_1_3 b) shapeCasts_S1x32x64x32_S1x2048x32 : IVec S1x2048x32 1))
    shapeCasts_S1x2048x32x64_S1x2048x2048

/-- Which tokens are set. -/
def tokens (g : IVec S1x2048 32) : IVec S1x2048 1 := cmpi .sgt g (broadcastInDim S1x2048 ![] bcast_S_S1x2048 (constantI S_ 32 0#32))

/-- A token mask along the key rows. -/
def alongKeys (t : IVec S1x2048 1) : IVec S1x2048x2048 1 :=
  broadcastInDim S1x2048x2048 ![0, 1, 2] bcast_S1x1x2048_S1x2048x2048_0_1_2 (broadcastInDim S1x1x2048 ![0, 2] bcast_S1x2048_S1x1x2048_0_2 t)

/-- A token mask along the query rows. -/
def alongQueries (t : IVec S1x2048 1) : IVec S1x2048x2048 1 :=
  broadcastInDim S1x2048x2048 ![0, 1, 2] bcast_S1x2048x1_S1x2048x2048_0_1_2 (broadcastInDim S1x2048x1 ![0, 1] bcast_S1x2048_S1x2048x1_0_1 t)

/-- The whole mask. -/
def tokenMask (gq gk pad : IVec S1x2048 32) : IVec S1x2048x2048 1 :=
  andi (ori (ori (wideMask (blockMask gq gk)) (alongQueries (tokens gq))) (alongKeys (tokens gk))) (alongKeys (tokens pad))

/-- The row word of update `(a, b)` is `a`. -/
theorem rowWord_apply (a : Fin 32) (b : Fin 3) : pairWords (ValueIdx.ix3 a b 0) = BitVec.ofNat 32 a.val := by
  unfold pairWords rowWords rowIds
  pointwise
  show Scalar.select (IntOp.cmpi .slt (BitVec.ofNat 32 a.val) 0#32) _ (BitVec.ofNat 32 a.val) = _
  exact Routing.wrap_of_lt _ _ (by rw [BitVec.toNat_ofNat]; omega)

/-- The literal holds the random table. -/
theorem lit_eq (a : Fin 32) (b : Fin 3) : lit0 (S32x3.rowMajor (ix2 a b)) = BitVec.ofNat 32 (randTable a b).val := by
  revert a b
  decide +kernel

/-- The column word of update `(a, b)` is the table's entry. -/
theorem colWord_apply (a : Fin 32) (b : Fin 3) : pairWords (ValueIdx.ix3 a b 1) = BitVec.ofNat 32 (randTable a b).val := by
  unfold pairWords colWords randWords
  pointwise
  show Scalar.select (IntOp.cmpi .slt (lit0 (S32x3.rowMajor (ix2 a b))) 0#32) _ (lit0 (S32x3.rowMajor (ix2 a b))) = _
  rw [lit_eq]
  exact Routing.wrap_of_lt _ _ (by rw [BitVec.toNat_ofNat]; omega)

/-- The local window at a pair of blocks. -/
theorem localMask_apply (a b : Fin 32) : localMask (ix2 a b) = if a.val ≤ b.val + 2 ∧ b.val ≤ a.val + 2 then 1#1 else 0#1 := by
  unfold localMask rowIds colIds
  pointwise
  revert a b
  decide +kernel

/-- The random blocks at a pair of blocks. -/
theorem randMask_apply (a b : Fin 32) : randMask (ix2 a b) = if ∃ k : Fin 3, randTable a k = b then 1#1 else 0#1 := by
  unfold randMask
  rw [ix2_eq]
  have lands := Routing.scatter_lands2 scatter_S32x32_S32x3x2_S32x3_n_01_01_2 rfl rfl rfl pairWords
  by_cases h : ∃ k : Fin 3, randTable a k = b
  · rw [if_pos h]
    obtain ⟨k, hk⟩ := h
    refine Routing.scatter_set_hit _ _ _ _ _ _ (fun k _ => ?_) (ValueIdx.ix2 a k) ((lands a k a b).2 ⟨?_, ?_⟩)
    · pointwise
    · rw [rowWord_apply]
      exact StableHlo.Predicate.toInt_ofNat_small _ (by omega)
    · rw [colWord_apply, hk]
      exact StableHlo.Predicate.toInt_ofNat_small _ (by omega)
  · rw [if_neg h]
    refine (Routing.scatter_set_miss _ _ _ _ _ fun k hk => h ?_).trans (by pointwise)
    obtain ⟨p, q, rfl⟩ : ∃ (p : Fin 32) (q : Fin 3), k = ValueIdx.ix2 p q := ⟨k 0, k 1, ValueIdx.eq_ix2 k⟩
    have e := (lands p q a b).1 hk
    rw [rowWord_apply, colWord_apply, StableHlo.Predicate.toInt_ofNat_small _ (by omega), StableHlo.Predicate.toInt_ofNat_small _ (by omega)] at e
    obtain rfl : p = a := Fin.ext (by omega)
    exact ⟨q, Fin.ext (by omega)⟩

/-- A word that is not positive is not found positive. -/
theorem sgt_zero_of_le {x : BitVec 32} (h : x.toInt ≤ 0) : IntOp.cmpi .sgt x 0#32 = 0#1 := by
  rcases BitVec.eq_zero_or_eq_one (IntOp.cmpi .sgt x 0#32) with e | e
  · exact e
  · have := IntOp.cmpi_sgt.mp e
    rw [BitVec.toInt_zero] at this
    omega

/-- A positive word is found positive. -/
theorem sgt_zero_of_lt {x : BitVec 32} (h : 0 < x.toInt) : IntOp.cmpi .sgt x 0#32 = 1#1 :=
  IntOp.cmpi_sgt.mpr (by rwa [BitVec.toInt_zero])

/-- The signed maximum of words that are not positive is not positive. -/
theorem foldl_maxsi_le {ι : Type} (f : ι → BitVec 32) (hf : ∀ i, (f i).toInt ≤ 0) (l : List ι) (z : BitVec 32) (hz : z.toInt ≤ 0) :
    (l.foldl (fun r i => IntOp.maxsi r (f i)) z).toInt ≤ 0 := by
  induction l generalizing z with
  | nil => exact hz
  | cons i l ih =>
    refine ih _ ?_
    show (if (f i).slt z then z else f i).toInt ≤ 0
    split
    · exact hz
    · exact hf i

/-- With no global token set no block holds one. -/
theorem globalBlocks_apply (g : IVec S1x2048 32) (hg : ∀ y, (g y).toInt ≤ 0) (y : S1x32.Idx) : globalBlocks g y = 0#1 := by
  unfold globalBlocks
  refine sgt_zero_of_le ?_
  rw [Host.reduce_eq_foldl]
  exact foldl_maxsi_le _ (fun i => hg _) _ _ (by decide)

/-- The block mask at a pair of blocks, no global token set. -/
theorem blockMask_apply (gq gk : IVec S1x2048 32) (hq : ∀ y, (gq y).toInt ≤ 0) (hk : ∀ y, (gk y).toInt ≤ 0) (a b : Fin 32) :
    blockMask gq gk (ix3 0 a b) = if Attends a b then 1#1 else 0#1 := by
  unfold blockMask
  pointwise [globalBlocks_apply, hq, hk, localMask_apply, randMask_apply]
  rw [globalBlocks_apply gq hq, globalBlocks_apply gk hk]
  have fold : ∀ (p q : Prop) [Decidable p] [Decidable q],
      IntOp.ori (IntOp.ori (IntOp.ori (if p then 1#1 else 0#1) (if q then 1#1 else 0#1)) 0#1) 0#1 = if p ∨ q then 1#1 else 0#1 := by
    intro p q _ _
    by_cases hp : p <;> by_cases hq : q <;> simp [hp, hq, IntOp.ori]
  exact (fold _ _).trans (if_congr Iff.rfl rfl rfl)

/-- The repeated mask at a pair of rows is the mask at their blocks. -/
theorem wideMask_apply (m : IVec S1x32x32 1) (i j : Fin 2048) : wideMask m (ix3 0 i j) = m (ix3 0 (blk i) (blk j)) := by
  unfold wideMask
  pointwise
  rfl

/-- The mask at a pair of rows, with no global token set and nothing padded: their blocks attend. -/
theorem tokenMask_apply (gq gk pad : IVec S1x2048 32) (hq : ∀ y, (gq y).toInt ≤ 0) (hk : ∀ y, (gk y).toInt ≤ 0) (hp : ∀ y, 0 < (pad y).toInt)
    (i j : Fin 2048) : tokenMask gq gk pad (ix3 0 i j) = if Attends (blk i) (blk j) then 1#1 else 0#1 := by
  unfold tokenMask alongKeys alongQueries tokens
  pointwise [wideMask_apply, blockMask_apply, hq, hk, sgt_zero_of_le, sgt_zero_of_lt, hp]
  rw [blockMask_apply gq gk hq hk]
  by_cases h : Attends (blk i) (blk j) <;> simp [h, IntOp.ori, IntOp.andi]

end Cert.Sparse.Ref

end
-- ==== Proof.Softmax.lean ====
/-
  Masked softmax of one row, applied to values, is the row's unshifted exponentials summed against the values and divided
  by their sum.

  The row has real scores; a position that is masked out scores `-∞`, whose exponential is zero. The shift is any real
  number. The values may be infinite.
-/
module

public import Idealize.ShloMosaic.Lib.IdealHost

@[expose] public section

noncomputable section

open Idealize.ShloMosaic

namespace Cert.Sparse

variable {n : ℕ}

/-- A nonnegative real factor comes out of a sum of extended reals. -/
theorem coe_mul_sum {ι : Type} (s : Finset ι) (c : ℝ) (hc : 0 ≤ c) (f : ι → EReal) : (c : EReal) * ∑ j ∈ s, f j = ∑ j ∈ s, (c : EReal) * f j := by
  classical
  induction s using Finset.induction_on with
  | empty => simp
  | insert i s hi ih =>
    rw [Finset.sum_insert hi, Finset.sum_insert hi, EReal.left_distrib_of_nonneg_of_ne_top (EReal.coe_nonneg.mpr hc) (EReal.coe_ne_top c), ih]

/-- A sum of reals, read as extended reals. -/
theorem coe_sum {ι : Type} (s : Finset ι) (f : ι → ℝ) : ((∑ j ∈ s, f j : ℝ) : EReal) = ∑ j ∈ s, (f j : EReal) := by
  classical
  induction s using Finset.induction_on with
  | empty => simp
  | insert i s hi ih => rw [Finset.sum_insert hi, Finset.sum_insert hi, EReal.coe_add, ih]

/-- The exponential of a shifted masked score. -/
theorem exp_masked (p : Prop) [Decidable p] (r μ : ℝ) :
    Ideal.exp ((if p then (r : EReal) else ⊥) - (μ : EReal)) = ((Real.exp (-μ) * (if p then Real.exp r else 0) : ℝ) : EReal) := by
  by_cases h : p
  · rw [if_pos h, if_pos h, ← EReal.coe_sub, Ideal.exp_coe, ← Real.exp_add]
    congr 2
    ring
  · rw [if_neg h, if_neg h, EReal.bot_sub, Ideal.exp_bot, mul_zero, EReal.coe_zero]

/-- Masked softmax against values, with any real shift, is the quotient of the two unshifted sums. -/
theorem softmax_row (a : Fin n → Prop) [DecidablePred a] (r : Fin n → ℝ) (i : Fin n) (hi : a i) (μ : ℝ) (V : Fin n → EReal) :
    ∑ j, Ideal.div (Ideal.exp ((if a j then (r j : EReal) else ⊥) - (μ : EReal)))
        (∑ k, Ideal.exp ((if a k then (r k : EReal) else ⊥) - (μ : EReal))) * V j
      = Ideal.div (∑ j, if a j then Ideal.exp (r j) * V j else 0) (∑ j, if a j then Ideal.exp (r j) else 0) := by
  have hw : ∀ j, (0 : ℝ) ≤ if a j then Real.exp (r j) else 0 := fun j => by split <;> positivity
  have hD : 0 < ∑ j, if a j then Real.exp (r j) else 0 :=
    Finset.sum_pos' (fun j _ => hw j) ⟨i, Finset.mem_univ i, by rw [if_pos hi]; exact Real.exp_pos _⟩
  simp only [exp_masked]
  rw [← coe_sum, ← Finset.mul_sum]
  have e1 : (∑ j, if a j then Ideal.exp (r j) * V j else 0) = ∑ j, ((if a j then Real.exp (r j) else 0 : ℝ) : EReal) * V j := by
    refine Finset.sum_congr rfl fun j _ => ?_
    by_cases h : a j
    · simp only [if_pos h, Ideal.exp_coe]
    · simp only [if_neg h, EReal.coe_zero, zero_mul]
  have e2 : (∑ j, if a j then Ideal.exp (r j) else 0) = ((∑ j, if a j then Real.exp (r j) else 0 : ℝ) : EReal) := by
    rw [coe_sum]
    refine Finset.sum_congr rfl fun j _ => ?_
    by_cases h : a j
    · simp only [if_pos h, Ideal.exp_coe]
    · simp only [if_neg h, EReal.coe_zero]
  rw [e1, e2]
  generalize (∑ j, if a j then Real.exp (r j) else 0) = D at hD
  have hμ := Real.exp_pos (-μ)
  rw [Ideal.div_coe hD.ne', mul_comm _ ((1 / D : ℝ) : EReal), coe_mul_sum _ _ (by positivity)]
  refine Finset.sum_congr rfl fun j _ => ?_
  rw [Ideal.div_coe (mul_pos hμ hD).ne', ← EReal.coe_mul, ← mul_assoc, ← EReal.coe_mul]
  congr 2
  field_simp

end Cert.Sparse

end
-- ==== Proof.HostMax.lean ====
/-
  A host reduction by maximum over the extended reals: it is at least each element it ranges over, and it is below `+∞` when
  its start and the elements are. Two constants of the reference as extended reals.
-/
module

public import Idealize.ShloMosaic.Lib.IdealHost
public import Idealize.ShloMosaic.PureOps.Reduce

@[expose] public section

noncomputable section

open Idealize.ShloMosaic

namespace Cert.Sparse.Ref

/-- The divisor `√64`. -/
theorem bits_eight : Ideal.ofBits .f32 0x41000000#32 = ((8 : ℝ) : EReal) := by
  simp [Ideal.ofBits, Ideal.ieee]
  rw [← EReal.coe_mul, EReal.coe_eq_coe_iff]
  norm_num

/-- The mask constant. -/
theorem bits_bot : Ideal.ofBits .f32 0xFF800000#32 = ⊥ := by
  simp [Ideal.ofBits, Ideal.ieee]

/-- A left fold by maximum is at least its start. -/
theorem le_foldl_max {ι : Type} (f : ι → EReal) (l : List ι) (z : EReal) : z ≤ l.foldl (fun r i => max r (f i)) z := by
  induction l generalizing z with
  | nil => exact le_rfl
  | cons i l ih => exact (le_max_left _ _).trans (ih _)

/-- A left fold by maximum is at least each of its terms. -/
theorem term_le_foldl_max {ι : Type} (f : ι → EReal) (l : List ι) (z : EReal) (i : ι) (hi : i ∈ l) :
    f i ≤ l.foldl (fun r i => max r (f i)) z := by
  induction l generalizing z with
  | nil => cases hi
  | cons k l ih =>
    rcases List.mem_cons.1 hi with rfl | hi
    · exact (le_max_right _ _).trans (le_foldl_max f l _)
    · exact ih _ hi

/-- A left fold by maximum of terms below `+∞` is below `+∞`. -/
theorem foldl_max_ne_top {ι : Type} (f : ι → EReal) (hf : ∀ i, f i ≠ ⊤) (l : List ι) (z : EReal) (hz : z ≠ ⊤) :
    l.foldl (fun r i => max r (f i)) z ≠ ⊤ := by
  induction l generalizing z with
  | nil => exact hz
  | cons i l ih =>
    refine ih _ ?_
    show max z (f i) ≠ ⊤
    rcases max_choice z (f i) with e | e <;> rw [e]
    · exact hz
    · exact hf i

variable {s t u : Shape} {axes : List (Fin s.rank)}

/-- A host maximum is at least each element it ranges over. -/
theorem le_hostMax (x : FVec Ideal s .f32) (init : FVec Ideal u .f32) (h : s.ReducesTo axes t) (hu : 0 < u.numel) (j : t.Idx) (i : s.Idx)
    (hi : h.drop i = j) : x i ≤ Host.reduce (FloatOps.maximumf (F := Ideal) (φ := .f32)) x init h hu j := by
  rw [Host.reduce_eq_foldl]
  exact term_le_foldl_max x _ _ i
    (List.mem_filter.2 ⟨List.mem_map.2 ⟨s.rowMajor i, List.mem_finRange _, Equiv.symm_apply_apply _ _⟩, decide_eq_true hi⟩)

/-- A host maximum of elements below `+∞` is below `+∞`. -/
theorem hostMax_ne_top (x : FVec Ideal s .f32) (init : FVec Ideal u .f32) (h : s.ReducesTo axes t) (hu : 0 < u.numel) (j : t.Idx)
    (hx : ∀ i, x i ≠ ⊤) (hz : ∀ i, init i ≠ ⊤) : Host.reduce (FloatOps.maximumf (F := Ideal) (φ := .f32)) x init h hu j ≠ ⊤ := by
  rw [Host.reduce_eq_foldl]
  exact foldl_max_ne_top x hx _ _ (hz _)

end Cert.Sparse.Ref

end
-- ==== Proof.RefValue.lean ====
/-
  The reference's result at a head, a row and a lane: attention of that row over the key rows its block attends to (`attn`),
  when no global token is set, nothing is padded and the queries and keys are finite.
-/
module

public import proofs.«01_k».proof.Proof.RefMask
public import proofs.«01_k».proof.Proof.Softmax
public import proofs.«01_k».proof.Proof.HostMax
public import proofs.«01_k».proof.Proof.Result

@[expose] public section

set_option maxRecDepth 16384

noncomputable section

open Idealize.ShloMosaic Idealize.ShloMosaic.TcCoe

namespace Cert.Sparse.Ref

open Cert.ReferenceIdeal Cert.ReferenceIdeal.Gen Cert.Sparse

/-- The masked scores. -/
def scores (Q K : FVec Ideal S1x16x2048x64 .f32) (mask : IVec S1x2048x2048 1) : FVec Ideal S1x16x2048x2048 .f32 :=
  select (broadcastInDim S1x16x2048x2048 ![0, 1, 2, 3] bcast_S1x1x2048x2048_S1x16x2048x2048_0_1_2_3
      (broadcastInDim S1x1x2048x2048 ![0, 2, 3] bcast_S1x2048x2048_S1x1x2048x2048_0_2_3 mask))
    (Host.divf (Host.dotGeneral dot_S1x16x2048x64_S1x16x2048x64_S1x16x2048x2048_3_3_2_2_01_01 none Q K)
      (broadcastInDim S1x16x2048x2048 ![] bcast_S_S1x16x2048x2048 (constant S_ .f32 0x41000000#32)))
    (broadcastInDim S1x16x2048x2048 ![] bcast_S_S1x16x2048x2048 (constant S_ .f32 0xFF800000#32))

/-- The rows' maxima as the host reduction gives them. -/
def rowMax (s : FVec Ideal S1x16x2048x2048 .f32) : FVec Ideal S1x16x2048 .f32 :=
  Host.reduce FloatOps.maximumf s (constant S_ .f32 0xFF800000#32) reducesTo_S1x16x2048x2048_S1x16x2048_d3 h_S_

/-- The rows' maxima. -/
def tops (s : FVec Ideal S1x16x2048x2048 .f32) : FVec Ideal S1x16x2048 .f32 :=
  maximumf (broadcastInDim S1x16x2048 ![] bcast_S_S1x16x2048 (constant S_ .f32 0xFF800000#32)) (rowMax s)

/-- A number for each row, along the row. -/
def alongRow (x : FVec Ideal S1x16x2048 .f32) : FVec Ideal S1x16x2048x2048 .f32 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 x)

/-- The shifted exponentials. -/
def exps (s : FVec Ideal S1x16x2048x2048 .f32) : FVec Ideal S1x16x2048x2048 .f32 := Host.exp (subf s (alongRow (tops s)))

/-- Softmax along the rows. -/
def softmax (s : FVec Ideal S1x16x2048x2048 .f32) : FVec Ideal S1x16x2048x2048 .f32 :=
  Host.divf (exps s) (alongRow (Host.reduceAdd (exps s) (constant S_ .f32 0x00000000#32) reducesTo_S1x16x2048x2048_S1x16x2048_d3 h_S_))

/-- The reference's result of its arguments. -/
def result (Q K V : FVec Ideal S1x16x2048x64 .f32) (gq gk pad : IVec S1x2048 32) : FVec Ideal S1x16x2048x64 .f32 :=
  Host.dotGeneral dot_S1x16x2048x2048_S1x16x2048x64_S1x16x2048x64_3_2_2_3_01_01 none (softmax (scores Q K (tokenMask gq gk pad))) V

/-- What the reference's run leaves is `result`. -/
theorem res_eq (m : (ℓ : Loc nD τ sig) → Buf (Elt Ideal) ℓ) (c : Dev nD) :
    Cert.ReferenceIdeal.Value.res_main_v80 m c
      = result (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6)) := rfl

variable (Q K V : FVec Ideal S1x16x2048x64 .f32) (gq gk pad : IVec S1x2048 32)

/-- A masked score at an index. -/
theorem scores_apply (mask : IVec S1x2048x2048 1) (h : Fin 16) (i j : Fin 2048) :
    scores Q K mask (ix4 0 h i j) = Scalar.select (mask (ix3 0 i j)) (Ideal.div (∑ k : Fin 64, Q (ix4 0 h i k) * K (ix4 0 h j k)) ((8 : ℝ) : EReal)) ⊥ := by
  unfold scores
  pointwise
  rw [bits_eight, bits_bot]

/-- A maximum with the mask constant at an index. -/
theorem floor_apply (r : FVec Ideal S1x16x2048 .f32) (y : S1x16x2048.Idx) :
    (maximumf (broadcastInDim S1x16x2048 ![] bcast_S_S1x16x2048 (constant S_ .f32 0xFF800000#32)) r : FVec Ideal S1x16x2048 .f32) y
      = max (Ideal.ofBits .f32 0xFF800000#32) (r y) := by
  pointwise

/-- A row's maximum. -/
theorem tops_eq (s : FVec Ideal S1x16x2048x2048 .f32) (y : S1x16x2048.Idx) :
    tops s y = max (Ideal.ofBits .f32 0xFF800000#32) (rowMax s y) := floor_apply (rowMax s) y

/-- The row a score lies in. -/
theorem drop_row (h : Fin 16) (i j : Fin 2048) :
    (reducesTo_S1x16x2048x2048_S1x16x2048_d3).drop (ix4 0 h i j) = (ix3 0 h i : S1x16x2048.Idx) := by
  funext b
  apply Fin.ext
  match b with
  | ⟨0, _⟩ => exact Shape.ReducesTo.drop_apply_val_of_eq reducesTo_S1x16x2048x2048_S1x16x2048_d3 (ix4 0 h i j) (0 : Fin 3) 0
  | ⟨1, _⟩ => exact Shape.ReducesTo.drop_apply_val_of_eq reducesTo_S1x16x2048x2048_S1x16x2048_d3 (ix4 0 h i j) (1 : Fin 3) 1
  | ⟨2, _⟩ => exact Shape.ReducesTo.drop_apply_val_of_eq reducesTo_S1x16x2048x2048_S1x16x2048_d3 (ix4 0 h i j) (2 : Fin 3) 2

/-- The row's maximum is at least each of its scores. -/
theorem le_tops (s : FVec Ideal S1x16x2048x2048 .f32) (h : Fin 16) (i j : Fin 2048) : s (ix4 0 h i j) ≤ tops s (ix3 0 h i) := by
  rw [tops_eq]
  exact le_trans (le_hostMax s _ reducesTo_S1x16x2048x2048_S1x16x2048_d3 h_S_ (ix3 0 h i) (ix4 0 h i j) (drop_row h i j)) (le_max_right _ _)

/-- The maximum of a row without `+∞` is not `+∞`. -/
theorem tops_ne_top (s : FVec Ideal S1x16x2048x2048 .f32) (hs : ∀ y, s y ≠ ⊤) (y : S1x16x2048.Idx) : tops s y ≠ ⊤ := by
  have hb : Ideal.ofBits .f32 0xFF800000#32 ≠ ⊤ := by rw [bits_bot]; exact bot_ne_top
  rw [tops_eq]
  exact ne_of_lt (max_lt (lt_top_iff_ne_top.2 hb)
    (lt_top_iff_ne_top.2 (hostMax_ne_top s _ reducesTo_S1x16x2048x2048_S1x16x2048_d3 h_S_ y hs fun _ => hb)))

/-- Softmax at an index. -/
theorem softmax_apply (s : FVec Ideal S1x16x2048x2048 .f32) (h : Fin 16) (i j : Fin 2048) :
    softmax s (ix4 0 h i j) = Ideal.div (Ideal.exp (s (ix4 0 h i j) - tops s (ix3 0 h i)))
      (∑ k : Fin 2048, Ideal.exp (s (ix4 0 h i k) - tops s (ix3 0 h i))) := by
  unfold softmax exps alongRow
  generalize tops s = t
  pointwise

/-- The result at an index. -/
theorem result_apply (h : Fin 16) (i : Fin 2048) (d : Fin 64) :
    result Q K V gq gk pad (ix4 0 h i d)
      = ∑ j : Fin 2048, softmax (scores Q K (tokenMask gq gk pad)) (ix4 0 h i j) * V (ix4 0 h j d) := by
  unfold result
  pointwise

/-- The real score of key row `j` for query row `i` of head `h`. -/
def score (Q K : FVec Ideal S1x16x2048x64 .f32) (h : Fin 16) (i j : Fin 2048) : ℝ :=
  (∑ k : Fin 64, (Q (ix4 0 h i k)).toReal * (K (ix4 0 h j k)).toReal) * (1 / 8)

/-- A finite extended real is the real it stands for. -/
theorem eq_coe {x : EReal} (h : x ≠ ⊤ ∧ x ≠ ⊥) : x = ((x.toReal : ℝ) : EReal) := (EReal.coe_toReal h.1 h.2).symm

/-- The reference's score of finite queries and keys: the products summed, then divided by 8. -/
theorem score_ref (hQ : ∀ y, Q y ≠ ⊤ ∧ Q y ≠ ⊥) (hK : ∀ y, K y ≠ ⊤ ∧ K y ≠ ⊥) (h : Fin 16) (i j : Fin 2048) :
    Ideal.div (∑ k : Fin 64, Q (ix4 0 h i k) * K (ix4 0 h j k)) ((8 : ℝ) : EReal) = (score Q K h i j : EReal) := by
  have e : ∑ k : Fin 64, Q (ix4 0 h i k) * K (ix4 0 h j k)
      = ((∑ k : Fin 64, (Q (ix4 0 h i k)).toReal * (K (ix4 0 h j k)).toReal : ℝ) : EReal) := by
    rw [coe_sum]
    refine Finset.sum_congr rfl fun k _ => ?_
    rw [EReal.coe_mul, ← eq_coe (hQ _), ← eq_coe (hK _)]
  rw [e, Ideal.div_coe (by norm_num), ← EReal.coe_mul]
  rfl

/-- The kernel's weight of finite queries and keys: the keys are scaled before the products are summed. -/
theorem weight_eq (hQ : ∀ y, Q y ≠ ⊤ ∧ Q y ≠ ⊥) (hK : ∀ y, K y ≠ ⊤ ∧ K y ≠ ⊥) (h : Fin 16) (i j : Fin 2048) :
    weight (headOf Q h) (headOf K h) i j = Ideal.exp (score Q K h i j : EReal) := by
  unfold weight score headOf
  refine congrArg Ideal.exp ?_
  rw [Finset.sum_mul, coe_sum]
  refine Finset.sum_congr rfl fun k _ => ?_
  show Q (ix4 0 h i k) * (K (ix4 0 h j k) * ((1 / 8 : ℝ) : EReal)) = _
  rw [mul_assoc, EReal.coe_mul, EReal.coe_mul, ← eq_coe (hQ _), ← eq_coe (hK _)]

/-- A masked score, with no global token set and nothing padded. -/
theorem scores_eq (hQ : ∀ y, Q y ≠ ⊤ ∧ Q y ≠ ⊥) (hK : ∀ y, K y ≠ ⊤ ∧ K y ≠ ⊥) (hq : ∀ y, (gq y).toInt ≤ 0) (hk : ∀ y, (gk y).toInt ≤ 0)
    (hp : ∀ y, 0 < (pad y).toInt) (h : Fin 16) (i j : Fin 2048) :
    scores Q K (tokenMask gq gk pad) (ix4 0 h i j) = if Attends (blk i) (blk j) then (score Q K h i j : EReal) else ⊥ := by
  rw [scores_apply, tokenMask_apply gq gk pad hq hk hp, score_ref Q K hQ hK]
  by_cases ha : Attends (blk i) (blk j)
  · rw [if_pos ha, if_pos ha]; rfl
  · rw [if_neg ha, if_neg ha]; rfl

/-- An index of four coordinates, the first of one value, by the other three. -/
theorem index4 {a b c : ℕ} (y : (⟨4, ![1, a, b, c]⟩ : Shape).Idx) : ∃ (h : Fin a) (i : Fin b) (d : Fin c), y = ix4 0 h i d :=
  ⟨y 1, y 2, y 3, by
    funext a
    match a with
    | ⟨0, _⟩ => exact Subsingleton.elim (α := Fin 1) _ _
    | ⟨1, _⟩ => rfl
    | ⟨2, _⟩ => rfl
    | ⟨3, _⟩ => rfl⟩

/-- With no global token set, nothing padded, and finite queries and keys the reference's result is every head's attention. -/
theorem result_eq (hQ : ∀ y, Q y ≠ ⊤ ∧ Q y ≠ ⊥) (hK : ∀ y, K y ≠ ⊤ ∧ K y ≠ ⊥) (hq : ∀ y, (gq y).toInt ≤ 0) (hk : ∀ y, (gk y).toInt ≤ 0)
    (hp : ∀ y, 0 < (pad y).toInt) : result Q K V gq gk pad = attnAll Q K V := by
  have hs := scores_eq Q K gq gk pad hQ hK hq hk hp
  have ht : ∀ y, scores Q K (tokenMask gq gk pad) y ≠ ⊤ := fun y => by
    obtain ⟨h, i, j, rfl⟩ := index4 y
    rw [hs]
    split
    · exact EReal.coe_ne_top _
    · exact bot_ne_top
  funext y
  obtain ⟨h, i, d, rfl⟩ := index4 y
  have hb : tops (scores Q K (tokenMask gq gk pad)) (ix3 0 h i) ≠ ⊥ := fun e => by
    have le := le_tops (scores Q K (tokenMask gq gk pad)) h i i
    rw [e, hs, if_pos (attends_self _)] at le
    exact EReal.coe_ne_bot _ (le_bot_iff.1 le)
  rw [result_apply]
  simp only [softmax_apply]
  rw [eq_coe ⟨tops_ne_top _ ht (ix3 0 h i), hb⟩]
  simp only [hs]
  refine (softmax_row (fun j => Attends (blk i) (blk j)) (score Q K h i) i (attends_self _) _ fun j => V (ix4 0 h j d)).trans ?_
  show _ = attn (headOf Q h) (headOf K h) (headOf V h) i d
  unfold attn
  simp only [weight_eq Q K hQ hK]
  rfl

end Cert.Sparse.Ref

end
-- ==== Proof.Inputs.lean ====
/-
  What the precondition says of the arguments, read element by element: the two lists of global tokens are off, the padding
  list is on, and every query and every key is a finite number.
-/
module

public import Idealize.ShloMosaic.Lib.ReduceAll
public import Idealize.ShloMosaic.Lib.Affine
public import Idealize.ShloMosaic.Lib.IdealHost
public import proofs.«01_k».proof.Pre_masks_off_finite_qk

@[expose] public section

noncomputable section

open Idealize.ShloMosaic

namespace Cert.Sparse.Pre

/-- The bound of a finite number. -/
theorem bits_top : Ideal.ofBits .f32 0x7F800000#32 = ⊤ := by
  simp [Ideal.ofBits, Ideal.ieee]

/-- Both parts of a conjunction of two words. -/
theorem and_parts {s : Shape} {a b : IVec s 1} {j : s.Idx} (h : andi a b j = 1#1) : a j = 1#1 ∧ b j = 1#1 :=
  IntOp.andi_eq_one.1 h

variable {s u : Shape} {dims : Fin u.rank → Fin s.rank}

/-- A list at most zero, element by element. -/
theorem le_zero (x : IVec s 32) (hb : u.BroadcastsInDim s dims) (i : s.Idx)
    (h : cmpi .sle x (broadcastInDim s dims hb (constantI u 32 0#32)) i = 1#1) : (x i).toInt ≤ 0 := by
  have h' : IntOp.cmpi .sle (x i) 0#32 = 1#1 := h
  simpa using IntOp.cmpi_sle.1 h'

/-- A list above zero, element by element. -/
theorem zero_lt (x : IVec s 32) (hb : u.BroadcastsInDim s dims) (i : s.Idx)
    (h : cmpi .sgt x (broadcastInDim s dims hb (constantI u 32 0#32)) i = 1#1) : 0 < (x i).toInt := by
  have h' : IntOp.cmpi .sgt (x i) 0#32 = 1#1 := h
  simpa using IntOp.cmpi_sgt.1 h'

/-- An element whose absolute value is below `+∞` is finite. -/
theorem finite (x : FVec Ideal s .f32) (hb : u.BroadcastsInDim s dims) (i : s.Idx)
    (h : cmpf .olt (Host.absf x) (broadcastInDim s dims hb (constant (F := Ideal) u .f32 0x7F800000#32)) i = 1#1) :
    x i ≠ ⊤ ∧ x i ≠ ⊥ := by
  have h' : BitVec.ofBool (decide (max (x i) (-(x i)) < Ideal.ofBits .f32 0x7F800000#32)) = 1#1 := h
  rw [bits_top] at h'
  have hlt : max (x i) (-(x i)) < (⊤ : EReal) := by
    by_contra hn
    rw [decide_eq_false hn] at h'
    exact absurd h' (by decide)
  refine ⟨fun e => ?_, fun e => ?_⟩
  · rw [e] at hlt
    exact absurd hlt (by simp)
  · rw [e] at hlt
    exact absurd hlt (by simp)

open Cert.Pre_masks_off_finite_qk

variable [Facts]

instance : Subsingleton S_.Idx := ⟨fun a b => funext fun i => i.elim0⟩

/-- The precondition, element by element. -/
theorem parts (Q K V : FVec Ideal S1x16x2048x64 .f32) (n : IVec S_ 32) (gq gk pad : IVec S1x2048 32) (j : S_.Idx)
    (h : fn (F := Ideal) Q K V n gq gk pad j = 1#1) :
    (∀ y, Q y ≠ ⊤ ∧ Q y ≠ ⊥) ∧ (∀ y, K y ≠ ⊤ ∧ K y ≠ ⊥)
      ∧ (∀ y, (gq y).toInt ≤ 0) ∧ (∀ y, (gk y).toInt ≤ 0) ∧ ∀ y, 0 < (pad y).toInt := by
  dsimp only [fn, fn_part1] at h
  obtain ⟨h, hK⟩ := and_parts h
  obtain ⟨h, hQ⟩ := and_parts h
  obtain ⟨h, hp⟩ := and_parts h
  obtain ⟨hq, hk⟩ := and_parts h
  exact ⟨fun y => finite Q _ y (Host.reduce_andi_all _ _ _ _ j hQ y), fun y => finite K _ y (Host.reduce_andi_all _ _ _ _ j hK y),
    fun y => le_zero gq _ y (Host.reduce_andi_all _ _ _ _ j hq y), fun y => le_zero gk _ y (Host.reduce_andi_all _ _ _ _ j hk y),
    fun y => zero_lt pad _ y (Host.reduce_andi_all _ _ _ _ j hp y)⟩

end Cert.Sparse.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_masks_off_finite_qk
public import proofs.«01_k».proof.Proof.Result
public import proofs.«01_k».proof.Proof.RefValue
public import proofs.«01_k».proof.Proof.Inputs
public import Idealize.ShloMosaic.Adequacy
public import Idealize.ShloMosaic.Init

@[expose] public section

noncomputable section

namespace Cert.Proof

open Cert.KernelIdeal (nD τ main_arg0 main_arg1 main_arg2)
open Idealize.ShloMosaic Idealize.ShloMosaic.TcCoe Idealize.SL.Sem

/-- The reference leaves its arguments unchanged; it has no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals the kernel and the reference end holding the same array: each head's attention over the key rows
    its blocks attend to. -/
theorem algebraic : Cert.algebraic_KernelIdeal_ReferenceIdeal_pre_masks_off_finite_qk (hKernelIdeal := Cert.KernelIdeal.Gen.facts)
    (hReferenceIdeal := Cert.ReferenceIdeal.Gen.facts) (hPre_masks_off_finite_qk := Cert.Pre_masks_off_finite_qk.Gen.facts) := by
  intro m g m' g' hpre hagree
  refine ⟨fun c => Cert.Sparse.attnAll (m ((c.tc : Thread nD τ).loc main_arg0)) (m ((c.tc : Thread nD τ).loc main_arg1))
    (m ((c.tc : Thread nD τ).loc main_arg2)), ?_, ?_⟩
  · exact (θ_run Cert.KernelIdeal.defs _ _).mono (fun r h c => ⟨(h c).1.trans (Cert.Sparse.result_eq m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, -, e4, e5, e6⟩ := hagree c
    obtain ⟨hQ, hK, hq, hk, hp⟩ := Cert.Sparse.Pre.parts _ _ _ _ _ _ _ default (congrFun (hpre c) default)
    rw [Cert.Sparse.Ref.res_eq, e0, e1, e2, e4, e5, e6]
    exact Cert.Sparse.Ref.result_eq _ _ _ _ _ _ hQ hK hq hk hp

theorem claim : Cert.Claim :=
  ⟨Cert.Kernel.Gen.facts, Cert.KernelIdeal.Gen.facts, Cert.ReferenceIdeal.Gen.facts, Cert.Pre_masks_off_finite_qk.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
